-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales_KernelIdeal [hPre_finite_scales_KernelIdeal : Cert.Pre_finite_scales_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales_ReferenceIdeal [hPre_finite_scales_ReferenceIdeal : Cert.Pre_finite_scales_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scales_KernelIdeal [hKernelIdeal : Cert.KernelIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scales_ReferenceIdeal [hReferenceIdeal : Cert.ReferenceIdeal.Facts] [hPre_finite_scales_ReferenceIdeal : Cert.Pre_finite_scales_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scales_KernelIdeal [hKernelIdeal : Cert.KernelIdeal.Facts] [hReferenceIdeal : Cert.ReferenceIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scales_KernelIdeal : Cert.Pre_finite_scales_KernelIdeal.Facts) (hPre_finite_scales_ReferenceIdeal : Cert.Pre_finite_scales_ReferenceIdeal.Facts),
    quiescent_Kernel (hKernel := hKernel)
    ∧ quiescent_KernelIdeal (hKernelIdeal := hKernelIdeal)
    ∧ quiescent_KernelIdeal_pre_finite_scales_KernelIdeal (hKernelIdeal := hKernelIdeal) (hPre_finite_scales_KernelIdeal := hPre_finite_scales_KernelIdeal)
    ∧ quiescent_ReferenceIdeal (hReferenceIdeal := hReferenceIdeal)
    ∧ quiescent_ReferenceIdeal_pre_finite_scales_ReferenceIdeal (hReferenceIdeal := hReferenceIdeal) (hPre_finite_scales_ReferenceIdeal := hPre_finite_scales_ReferenceIdeal)
    ∧ preserves_Kernel_KernelIdeal
    ∧ algebraic_KernelIdeal_ReferenceIdeal_pre_finite_scales_KernelIdeal (hKernelIdeal := hKernelIdeal) (hReferenceIdeal := hReferenceIdeal) (hPre_finite_scales_KernelIdeal := hPre_finite_scales_KernelIdeal)
-- ==== Pre_finite_scales_KernelIdeal.lean ====
abbrev S4096x512 : Shape := ⟨2, ![4096, 512]⟩
abbrev S512x8192 : Shape := ⟨2, ![512, 8192]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S4096x512 8) (main_arg1 : IVec S512x8192 8) (main_arg2 : FVec F S1 .f32) (main_arg3 : FVec F S1 .f32) : IVec S_ 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Pre_finite_scales_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S4096x4096 8) (main_arg1 : IVec S4096x8192 8) (main_arg2 : FVec F S1 .f32) (main_arg3 : FVec F S1 .f32) : IVec S_ 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S2x512x1024 : Shape := ⟨3, ![2, 512, 1024]⟩
abbrev S512x1024 : Shape := ⟨2, ![512, 1024]⟩
abbrev S8x2 : Shape := ⟨2, ![8, 2]⟩
abbrev S8 : Shape := ⟨1, ![8]⟩
abbrev S_ : Shape := ⟨0, ![]⟩
abbrev S512x512 : Shape := ⟨2, ![512, 512]⟩
abbrev S1x512x1024 : Shape := ⟨3, ![1, 512, 1024]⟩
abbrev S1x1 : Shape := ⟨2, ![1, 1]⟩

abbrev nBuf : Space → Nat
  | .hbm => 5
  | .vmem => 18
  | .smem => 2
  | _ => 0

abbrev bufTy : (tb : Table) → Fin (tcTables nBuf tb) → BufTy
  | .hbm, ⟨0, _⟩ => ⟨S4096x512, .i8⟩
  | .hbm, ⟨1, _⟩ => ⟨S512x8192, .i8⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x512, .i8⟩
  | .local _ .vmem, ⟨1, _⟩ => ⟨S512x8192, .i8⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | .local _ .vmem, ⟨6, _⟩ => ⟨S2x512x1024, .f32⟩
  | .local _ .vmem, ⟨7, _⟩ => ⟨S2x512x1024, .f32⟩
  | .local _ .vmem, ⟨8, _⟩ => ⟨S2x512x1024, .f32⟩
  | .local _ .vmem, ⟨9, _⟩ => ⟨S2x512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 9 36 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v16 : BitVec 32 := Scalar.muli v2 c512_i32
  let v17 : Index := Scalar.indexCast v16
  let c0_11 : Index := 0#32
  ![v17.toNat, 0]
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_71 : BitVec 32 := 1#32
  let v120 : BitVec 32 := Scalar.muli v7 c1_i32_71
  let v121 : BitVec 32 := Scalar.addi c0_i32_72 v120
  v121.toNat
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_83 : BitVec 32 := 1#32
  let v130 : BitVec 32 := Scalar.muli v5 c1_i32_83
  let v131 : BitVec 32 := Scalar.addi c0_i32_84 v130
  v131.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_95 : BitVec 32 := 1#32
  let v140 : BitVec 32 := Scalar.muli v7 c1_i32_95
  let v141 : BitVec 32 := Scalar.addi c0_i32_96 v140
  v141.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_106 : BitVec 32 := 1#32
  let v150 : BitVec 32 := Scalar.muli v5 c1_i32_106
  let v151 : BitVec 32 := Scalar.addi c0_i32_107 v150
  v151.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_117 : BitVec 32 := 1#32
  let v160 : BitVec 32 := Scalar.muli v7 c1_i32_117
  let v161 : BitVec 32 := Scalar.addi c0_i32_118 v160
  v161.toNat
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_128 : BitVec 32 := 1#32
  let v170 : BitVec 32 := Scalar.muli v5 c1_i32_128
  let v171 : BitVec 32 := Scalar.addi c0_i32_129 v170
  v171.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_139 : BitVec 32 := 1#32
  let v180 : BitVec 32 := Scalar.muli v7 c1_i32_139
  let v181 : BitVec 32 := Scalar.addi c0_i32_140 v180
  v181.toNat
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_150 : BitVec 32 := 1#32
  let v190 : BitVec 32 := Scalar.muli v5 c1_i32_150
  let v191 : BitVec 32 := Scalar.addi c0_i32_151 v190
  v191.toNat
def k0_off2 (d0 : Dev nD) (c0_i32_156 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v200 : BitVec 32 := Scalar.addi v2 c16_i32
  let v201 : BitVec 32 := Scalar.subi v200 c0_i32_156
  let c1_i32_157 : BitVec 32 := 1#32
  let v202 : BitVec 32 := Scalar.subi v201 c1_i32_157
  let c8_i32_158 : BitVec 32 := 8#32
  let v203 : BitVec 32 := Scalar.remsi v202 c8_i32_158
  let c512_i32_159 : BitVec 32 := 512#32
  let v204 : BitVec 32 := Scalar.muli v203 c512_i32_159
  let v205 : Index := Scalar.indexCast v204
  let c0_160 : Index := 0#32
  ![v205.toNat, 0]
def k0_off3 (d0 : Dev nD) (c0_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v217 : BitVec 32 := Scalar.addi v2 c0_i32_166
  let c1_i32_167 : BitVec 32 := 1#32
  let v218 : BitVec 32 := Scalar.addi v217 c1_i32_167
  let c8_i32_168 : BitVec 32 := 8#32
  let v219 : BitVec 32 := Scalar.remsi v218 c8_i32_168
  let c512_i32_169 : BitVec 32 := 512#32
  let v220 : BitVec 32 := Scalar.muli v219 c512_i32_169
  let v221 : Index := Scalar.indexCast v220
  let c0_170 : Index := 0#32
  ![v221.toNat, 0]
def k0_dev11 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_272 : BitVec 32 := 1#32
  let v355 : BitVec 32 := Scalar.muli v5 c1_i32_272
  let v356 : BitVec 32 := Scalar.addi c0_i32_273 v355
  v356.toNat
def k0_dev12 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_283 : BitVec 32 := 1#32
  let v359 : BitVec 32 := Scalar.muli v7 c1_i32_283
  let v360 : BitVec 32 := Scalar.addi c0_i32_284 v359
  v360.toNat
def k0_dev13 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_322 : BitVec 32 := 1#32
  let v392 : BitVec 32 := Scalar.muli v7 c1_i32_322
  let v393 : BitVec 32 := Scalar.addi c0_i32_323 v392
  v393.toNat
def k0_dev14 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_333 : BitVec 32 := 1#32
  let v396 : BitVec 32 := Scalar.muli v5 c1_i32_333
  let v397 : BitVec 32 := Scalar.addi c0_i32_334 v396
  v397.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_372 : BitVec 32 := 1#32
  let v429 : BitVec 32 := Scalar.muli v5 c1_i32_372
  let v430 : BitVec 32 := Scalar.addi c0_i32_373 v429
  v430.toNat
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_383 : BitVec 32 := 1#32
  let v433 : BitVec 32 := Scalar.muli v7 c1_i32_383
  let v434 : BitVec 32 := Scalar.addi c0_i32_384 v433
  v434.toNat
def k0_dev17 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_422 : BitVec 32 := 1#32
  let v466 : BitVec 32 := Scalar.muli v7 c1_i32_422
  let v467 : BitVec 32 := Scalar.addi c0_i32_423 v466
  v467.toNat
def k0_dev18 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_433 : BitVec 32 := 1#32
  let v470 : BitVec 32 := Scalar.muli v5 c1_i32_433
  let v471 : BitVec 32 := Scalar.addi c0_i32_434 v470
  v471.toNat
def k0_dev19 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_472 : BitVec 32 := 1#32
  let v503 : BitVec 32 := Scalar.muli v5 c1_i32_472
  let v504 : BitVec 32 := Scalar.addi c0_i32_473 v503
  v504.toNat
def k0_dev20 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_483 : BitVec 32 := 1#32
  let v507 : BitVec 32 := Scalar.muli v7 c1_i32_483
  let v508 : BitVec 32 := Scalar.addi c0_i32_484 v507
  v508.toNat
def k0_dev21 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_522 : BitVec 32 := 1#32
  let v540 : BitVec 32 := Scalar.muli v7 c1_i32_522
  let v541 : BitVec 32 := Scalar.addi c0_i32_523 v540
  v541.toNat
def k0_dev22 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_533 : BitVec 32 := 1#32
  let v544 : BitVec 32 := Scalar.muli v5 c1_i32_533
  let v545 : BitVec 32 := Scalar.addi c0_i32_534 v544
  v545.toNat
def k0_dev23 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_572 : BitVec 32 := 1#32
  let v577 : BitVec 32 := Scalar.muli v5 c1_i32_572
  let v578 : BitVec 32 := Scalar.addi c0_i32_573 v577
  v578.toNat
def k0_dev24 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_583 : BitVec 32 := 1#32
  let v581 : BitVec 32 := Scalar.muli v7 c1_i32_583
  let v582 : BitVec 32 := Scalar.addi c0_i32_584 v581
  v582.toNat
def k0_dev25 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_622 : BitVec 32 := 1#32
  let v614 : BitVec 32 := Scalar.muli v7 c1_i32_622
  let v615 : BitVec 32 := Scalar.addi c0_i32_623 v614
  v615.toNat
def k0_dev26 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_633 : BitVec 32 := 1#32
  let v618 : BitVec 32 := Scalar.muli v5 c1_i32_633
  let v619 : BitVec 32 := Scalar.addi c0_i32_634 v618
  v619.toNat
def k0_dev27 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_756 : BitVec 32 := 1#32
  let v783 : BitVec 32 := Scalar.muli v5 c1_i32_756
  let v784 : BitVec 32 := Scalar.addi c0_i32_757 v783
  v784.toNat
def k0_dev28 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_767 : BitVec 32 := 1#32
  let v787 : BitVec 32 := Scalar.muli v7 c1_i32_767
  let v788 : BitVec 32 := Scalar.addi c0_i32_768 v787
  v788.toNat
def k0_dev29 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_806 : BitVec 32 := 1#32
  let v820 : BitVec 32 := Scalar.muli v7 c1_i32_806
  let v821 : BitVec 32 := Scalar.addi c0_i32_807 v820
  v821.toNat
def k0_dev30 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_817 : BitVec 32 := 1#32
  let v824 : BitVec 32 := Scalar.muli v5 c1_i32_817
  let v825 : BitVec 32 := Scalar.addi c0_i32_818 v824
  v825.toNat
def k0_dev31 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_856 : BitVec 32 := 1#32
  let v857 : BitVec 32 := Scalar.muli v5 c1_i32_856
  let v858 : BitVec 32 := Scalar.addi c0_i32_857 v857
  v858.toNat
def k0_dev32 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_867 : BitVec 32 := 1#32
  let v861 : BitVec 32 := Scalar.muli v7 c1_i32_867
  let v862 : BitVec 32 := Scalar.addi c0_i32_868 v861
  v862.toNat
def k0_dev33 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_906 : BitVec 32 := 1#32
  let v894 : BitVec 32 := Scalar.muli v7 c1_i32_906
  let v895 : BitVec 32 := Scalar.addi c0_i32_907 v894
  v895.toNat
def k0_dev34 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_917 : BitVec 32 := 1#32
  let v898 : BitVec 32 := Scalar.muli v5 c1_i32_917
  let v899 : BitVec 32 := Scalar.addi c0_i32_918 v898
  v899.toNat
def k0_dev35 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_956 : BitVec 32 := 1#32
  let v931 : BitVec 32 := Scalar.muli v5 c1_i32_956
  let v932 : BitVec 32 := Scalar.addi c0_i32_957 v931
  v932.toNat
def k0_dev36 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_967 : BitVec 32 := 1#32
  let v935 : BitVec 32 := Scalar.muli v7 c1_i32_967
  let v936 : BitVec 32 := Scalar.addi c0_i32_968 v935
  v936.toNat
def k0_dev37 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1006 : BitVec 32 := 1#32
  let v968 : BitVec 32 := Scalar.muli v7 c1_i32_1006
  let v969 : BitVec 32 := Scalar.addi c0_i32_1007 v968
  v969.toNat
def k0_dev38 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1017 : BitVec 32 := 1#32
  let v972 : BitVec 32 := Scalar.muli v5 c1_i32_1017
  let v973 : BitVec 32 := Scalar.addi c0_i32_1018 v972
  v973.toNat
def k0_dev39 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1056 : BitVec 32 := 1#32
  let v1005 : BitVec 32 := Scalar.muli v5 c1_i32_1056
  let v1006 : BitVec 32 := Scalar.addi c0_i32_1057 v1005
  v1006.toNat
def k0_dev40 (d0 : Dev nD) : Nat :=
  let c0_i32_1068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1067 : BitVec 32 := 1#32
  let v1009 : BitVec 32 := Scalar.muli v7 c1_i32_1067
  let v1010 : BitVec 32 := Scalar.addi c0_i32_1068 v1009
  v1010.toNat
def k0_dev41 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1106 : BitVec 32 := 1#32
  let v1042 : BitVec 32 := Scalar.muli v7 c1_i32_1106
  let v1043 : BitVec 32 := Scalar.addi c0_i32_1107 v1042
  v1043.toNat
def k0_dev42 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1117 : BitVec 32 := 1#32
  let v1046 : BitVec 32 := Scalar.muli v5 c1_i32_1117
  let v1047 : BitVec 32 := Scalar.addi c0_i32_1118 v1046
  v1047.toNat
def k0_dev43 (d0 : Dev nD) : Nat :=
  let c0_i32_1241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1240 : BitVec 32 := 1#32
  let v1211 : BitVec 32 := Scalar.muli v5 c1_i32_1240
  let v1212 : BitVec 32 := Scalar.addi c0_i32_1241 v1211
  v1212.toNat
def k0_dev44 (d0 : Dev nD) : Nat :=
  let c0_i32_1252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1251 : BitVec 32 := 1#32
  let v1215 : BitVec 32 := Scalar.muli v7 c1_i32_1251
  let v1216 : BitVec 32 := Scalar.addi c0_i32_1252 v1215
  v1216.toNat
def k0_dev45 (d0 : Dev nD) : Nat :=
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1290 : BitVec 32 := 1#32
  let v1248 : BitVec 32 := Scalar.muli v7 c1_i32_1290
  let v1249 : BitVec 32 := Scalar.addi c0_i32_1291 v1248
  v1249.toNat
def k0_dev46 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1301 : BitVec 32 := 1#32
  let v1252 : BitVec 32 := Scalar.muli v5 c1_i32_1301
  let v1253 : BitVec 32 := Scalar.addi c0_i32_1302 v1252
  v1253.toNat
def k0_dev47 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1340 : BitVec 32 := 1#32
  let v1285 : BitVec 32 := Scalar.muli v5 c1_i32_1340
  let v1286 : BitVec 32 := Scalar.addi c0_i32_1341 v1285
  v1286.toNat
def k0_dev48 (d0 : Dev nD) : Nat :=
  let c0_i32_1352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1351 : BitVec 32 := 1#32
  let v1289 : BitVec 32 := Scalar.muli v7 c1_i32_1351
  let v1290 : BitVec 32 := Scalar.addi c0_i32_1352 v1289
  v1290.toNat
def k0_dev49 (d0 : Dev nD) : Nat :=
  let c0_i32_1391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1390 : BitVec 32 := 1#32
  let v1322 : BitVec 32 := Scalar.muli v7 c1_i32_1390
  let v1323 : BitVec 32 := Scalar.addi c0_i32_1391 v1322
  v1323.toNat
def k0_dev50 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1401 : BitVec 32 := 1#32
  let v1326 : BitVec 32 := Scalar.muli v5 c1_i32_1401
  let v1327 : BitVec 32 := Scalar.addi c0_i32_1402 v1326
  v1327.toNat
def k0_dev51 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1440 : BitVec 32 := 1#32
  let v1359 : BitVec 32 := Scalar.muli v5 c1_i32_1440
  let v1360 : BitVec 32 := Scalar.addi c0_i32_1441 v1359
  v1360.toNat
def k0_dev52 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1451 : BitVec 32 := 1#32
  let v1363 : BitVec 32 := Scalar.muli v7 c1_i32_1451
  let v1364 : BitVec 32 := Scalar.addi c0_i32_1452 v1363
  v1364.toNat
def k0_dev53 (d0 : Dev nD) : Nat :=
  let c0_i32_1491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1490 : BitVec 32 := 1#32
  let v1396 : BitVec 32 := Scalar.muli v7 c1_i32_1490
  let v1397 : BitVec 32 := Scalar.addi c0_i32_1491 v1396
  v1397.toNat
def k0_dev54 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1501 : BitVec 32 := 1#32
  let v1400 : BitVec 32 := Scalar.muli v5 c1_i32_1501
  let v1401 : BitVec 32 := Scalar.addi c0_i32_1502 v1400
  v1401.toNat
def k0_dev55 (d0 : Dev nD) : Nat :=
  let c0_i32_1541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1540 : BitVec 32 := 1#32
  let v1433 : BitVec 32 := Scalar.muli v5 c1_i32_1540
  let v1434 : BitVec 32 := Scalar.addi c0_i32_1541 v1433
  v1434.toNat
def k0_dev56 (d0 : Dev nD) : Nat :=
  let c0_i32_1552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1551 : BitVec 32 := 1#32
  let v1437 : BitVec 32 := Scalar.muli v7 c1_i32_1551
  let v1438 : BitVec 32 := Scalar.addi c0_i32_1552 v1437
  v1438.toNat
def k0_dev57 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1590 : BitVec 32 := 1#32
  let v1470 : BitVec 32 := Scalar.muli v7 c1_i32_1590
  let v1471 : BitVec 32 := Scalar.addi c0_i32_1591 v1470
  v1471.toNat
def k0_dev58 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1601 : BitVec 32 := 1#32
  let v1474 : BitVec 32 := Scalar.muli v5 c1_i32_1601
  let v1475 : BitVec 32 := Scalar.addi c0_i32_1602 v1474
  v1475.toNat
def k0_dev59 (d0 : Dev nD) : Nat :=
  let c0_i32_1725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1724 : BitVec 32 := 1#32
  let v1639 : BitVec 32 := Scalar.muli v5 c1_i32_1724
  let v1640 : BitVec 32 := Scalar.addi c0_i32_1725 v1639
  v1640.toNat
def k0_dev60 (d0 : Dev nD) : Nat :=
  let c0_i32_1736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1735 : BitVec 32 := 1#32
  let v1643 : BitVec 32 := Scalar.muli v7 c1_i32_1735
  let v1644 : BitVec 32 := Scalar.addi c0_i32_1736 v1643
  v1644.toNat
def k0_dev61 (d0 : Dev nD) : Nat :=
  let c0_i32_1775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1774 : BitVec 32 := 1#32
  let v1676 : BitVec 32 := Scalar.muli v7 c1_i32_1774
  let v1677 : BitVec 32 := Scalar.addi c0_i32_1775 v1676
  v1677.toNat
def k0_dev62 (d0 : Dev nD) : Nat :=
  let c0_i32_1786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1785 : BitVec 32 := 1#32
  let v1680 : BitVec 32 := Scalar.muli v5 c1_i32_1785
  let v1681 : BitVec 32 := Scalar.addi c0_i32_1786 v1680
  v1681.toNat
def k0_dev63 (d0 : Dev nD) : Nat :=
  let c0_i32_1825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1824 : BitVec 32 := 1#32
  let v1713 : BitVec 32 := Scalar.muli v5 c1_i32_1824
  let v1714 : BitVec 32 := Scalar.addi c0_i32_1825 v1713
  v1714.toNat
def k0_dev64 (d0 : Dev nD) : Nat :=
  let c0_i32_1836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1835 : BitVec 32 := 1#32
  let v1717 : BitVec 32 := Scalar.muli v7 c1_i32_1835
  let v1718 : BitVec 32 := Scalar.addi c0_i32_1836 v1717
  v1718.toNat
def k0_dev65 (d0 : Dev nD) : Nat :=
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1874 : BitVec 32 := 1#32
  let v1750 : BitVec 32 := Scalar.muli v7 c1_i32_1874
  let v1751 : BitVec 32 := Scalar.addi c0_i32_1875 v1750
  v1751.toNat
def k0_dev66 (d0 : Dev nD) : Nat :=
  let c0_i32_1886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1885 : BitVec 32 := 1#32
  let v1754 : BitVec 32 := Scalar.muli v5 c1_i32_1885
  let v1755 : BitVec 32 := Scalar.addi c0_i32_1886 v1754
  v1755.toNat
def k0_dev67 (d0 : Dev nD) : Nat :=
  let c0_i32_1925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1924 : BitVec 32 := 1#32
  let v1787 : BitVec 32 := Scalar.muli v5 c1_i32_1924
  let v1788 : BitVec 32 := Scalar.addi c0_i32_1925 v1787
  v1788.toNat
def k0_dev68 (d0 : Dev nD) : Nat :=
  let c0_i32_1936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1935 : BitVec 32 := 1#32
  let v1791 : BitVec 32 := Scalar.muli v7 c1_i32_1935
  let v1792 : BitVec 32 := Scalar.addi c0_i32_1936 v1791
  v1792.toNat
def k0_dev69 (d0 : Dev nD) : Nat :=
  let c0_i32_1975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1974 : BitVec 32 := 1#32
  let v1824 : BitVec 32 := Scalar.muli v7 c1_i32_1974
  let v1825 : BitVec 32 := Scalar.addi c0_i32_1975 v1824
  v1825.toNat
def k0_dev70 (d0 : Dev nD) : Nat :=
  let c0_i32_1986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1985 : BitVec 32 := 1#32
  let v1828 : BitVec 32 := Scalar.muli v5 c1_i32_1985
  let v1829 : BitVec 32 := Scalar.addi c0_i32_1986 v1828
  v1829.toNat
def k0_dev71 (d0 : Dev nD) : Nat :=
  let c0_i32_2025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2024 : BitVec 32 := 1#32
  let v1861 : BitVec 32 := Scalar.muli v5 c1_i32_2024
  let v1862 : BitVec 32 := Scalar.addi c0_i32_2025 v1861
  v1862.toNat
def k0_dev72 (d0 : Dev nD) : Nat :=
  let c0_i32_2036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2035 : BitVec 32 := 1#32
  let v1865 : BitVec 32 := Scalar.muli v7 c1_i32_2035
  let v1866 : BitVec 32 := Scalar.addi c0_i32_2036 v1865
  v1866.toNat
def k0_dev73 (d0 : Dev nD) : Nat :=
  let c0_i32_2075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2074 : BitVec 32 := 1#32
  let v1898 : BitVec 32 := Scalar.muli v7 c1_i32_2074
  let v1899 : BitVec 32 := Scalar.addi c0_i32_2075 v1898
  v1899.toNat
def k0_dev74 (d0 : Dev nD) : Nat :=
  let c0_i32_2086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2085 : BitVec 32 := 1#32
  let v1902 : BitVec 32 := Scalar.muli v5 c1_i32_2085
  let v1903 : BitVec 32 := Scalar.addi c0_i32_2086 v1902
  v1903.toNat
def k0_dev75 (d0 : Dev nD) : Nat :=
  let c0_i32_2209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2208 : BitVec 32 := 1#32
  let v2067 : BitVec 32 := Scalar.muli v5 c1_i32_2208
  let v2068 : BitVec 32 := Scalar.addi c0_i32_2209 v2067
  v2068.toNat
def k0_dev76 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2219 : BitVec 32 := 1#32
  let v2071 : BitVec 32 := Scalar.muli v7 c1_i32_2219
  let v2072 : BitVec 32 := Scalar.addi c0_i32_2220 v2071
  v2072.toNat
def k0_dev77 (d0 : Dev nD) : Nat :=
  let c0_i32_2259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2258 : BitVec 32 := 1#32
  let v2104 : BitVec 32 := Scalar.muli v7 c1_i32_2258
  let v2105 : BitVec 32 := Scalar.addi c0_i32_2259 v2104
  v2105.toNat
def k0_dev78 (d0 : Dev nD) : Nat :=
  let c0_i32_2270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2269 : BitVec 32 := 1#32
  let v2108 : BitVec 32 := Scalar.muli v5 c1_i32_2269
  let v2109 : BitVec 32 := Scalar.addi c0_i32_2270 v2108
  v2109.toNat
def k0_dev79 (d0 : Dev nD) : Nat :=
  let c0_i32_2309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2308 : BitVec 32 := 1#32
  let v2141 : BitVec 32 := Scalar.muli v5 c1_i32_2308
  let v2142 : BitVec 32 := Scalar.addi c0_i32_2309 v2141
  v2142.toNat
def k0_dev80 (d0 : Dev nD) : Nat :=
  let c0_i32_2320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2319 : BitVec 32 := 1#32
  let v2145 : BitVec 32 := Scalar.muli v7 c1_i32_2319
  let v2146 : BitVec 32 := Scalar.addi c0_i32_2320 v2145
  v2146.toNat
def k0_dev81 (d0 : Dev nD) : Nat :=
  let c0_i32_2359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2358 : BitVec 32 := 1#32
  let v2178 : BitVec 32 := Scalar.muli v7 c1_i32_2358
  let v2179 : BitVec 32 := Scalar.addi c0_i32_2359 v2178
  v2179.toNat
def k0_dev82 (d0 : Dev nD) : Nat :=
  let c0_i32_2370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2369 : BitVec 32 := 1#32
  let v2182 : BitVec 32 := Scalar.muli v5 c1_i32_2369
  let v2183 : BitVec 32 := Scalar.addi c0_i32_2370 v2182
  v2183.toNat
def k0_dev83 (d0 : Dev nD) : Nat :=
  let c0_i32_2409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2408 : BitVec 32 := 1#32
  let v2215 : BitVec 32 := Scalar.muli v5 c1_i32_2408
  let v2216 : BitVec 32 := Scalar.addi c0_i32_2409 v2215
  v2216.toNat
def k0_dev84 (d0 : Dev nD) : Nat :=
  let c0_i32_2420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2419 : BitVec 32 := 1#32
  let v2219 : BitVec 32 := Scalar.muli v7 c1_i32_2419
  let v2220 : BitVec 32 := Scalar.addi c0_i32_2420 v2219
  v2220.toNat
def k0_dev85 (d0 : Dev nD) : Nat :=
  let c0_i32_2459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2458 : BitVec 32 := 1#32
  let v2252 : BitVec 32 := Scalar.muli v7 c1_i32_2458
  let v2253 : BitVec 32 := Scalar.addi c0_i32_2459 v2252
  v2253.toNat
def k0_dev86 (d0 : Dev nD) : Nat :=
  let c0_i32_2470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2469 : BitVec 32 := 1#32
  let v2256 : BitVec 32 := Scalar.muli v5 c1_i32_2469
  let v2257 : BitVec 32 := Scalar.addi c0_i32_2470 v2256
  v2257.toNat
def k0_dev87 (d0 : Dev nD) : Nat :=
  let c0_i32_2509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2508 : BitVec 32 := 1#32
  let v2289 : BitVec 32 := Scalar.muli v5 c1_i32_2508
  let v2290 : BitVec 32 := Scalar.addi c0_i32_2509 v2289
  v2290.toNat
def k0_dev88 (d0 : Dev nD) : Nat :=
  let c0_i32_2520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2519 : BitVec 32 := 1#32
  let v2293 : BitVec 32 := Scalar.muli v7 c1_i32_2519
  let v2294 : BitVec 32 := Scalar.addi c0_i32_2520 v2293
  v2294.toNat
def k0_dev89 (d0 : Dev nD) : Nat :=
  let c0_i32_2559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2558 : BitVec 32 := 1#32
  let v2326 : BitVec 32 := Scalar.muli v7 c1_i32_2558
  let v2327 : BitVec 32 := Scalar.addi c0_i32_2559 v2326
  v2327.toNat
def k0_dev90 (d0 : Dev nD) : Nat :=
  let c0_i32_2570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2569 : BitVec 32 := 1#32
  let v2330 : BitVec 32 := Scalar.muli v5 c1_i32_2569
  let v2331 : BitVec 32 := Scalar.addi c0_i32_2570 v2330
  v2331.toNat
def k0_dev91 (d0 : Dev nD) : Nat :=
  let c0_i32_2693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2692 : BitVec 32 := 1#32
  let v2495 : BitVec 32 := Scalar.muli v5 c1_i32_2692
  let v2496 : BitVec 32 := Scalar.addi c0_i32_2693 v2495
  v2496.toNat
def k0_dev92 (d0 : Dev nD) : Nat :=
  let c0_i32_2704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2703 : BitVec 32 := 1#32
  let v2499 : BitVec 32 := Scalar.muli v7 c1_i32_2703
  let v2500 : BitVec 32 := Scalar.addi c0_i32_2704 v2499
  v2500.toNat
def k0_dev93 (d0 : Dev nD) : Nat :=
  let c0_i32_2743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2742 : BitVec 32 := 1#32
  let v2532 : BitVec 32 := Scalar.muli v7 c1_i32_2742
  let v2533 : BitVec 32 := Scalar.addi c0_i32_2743 v2532
  v2533.toNat
def k0_dev94 (d0 : Dev nD) : Nat :=
  let c0_i32_2754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2753 : BitVec 32 := 1#32
  let v2536 : BitVec 32 := Scalar.muli v5 c1_i32_2753
  let v2537 : BitVec 32 := Scalar.addi c0_i32_2754 v2536
  v2537.toNat
def k0_dev95 (d0 : Dev nD) : Nat :=
  let c0_i32_2793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2792 : BitVec 32 := 1#32
  let v2569 : BitVec 32 := Scalar.muli v5 c1_i32_2792
  let v2570 : BitVec 32 := Scalar.addi c0_i32_2793 v2569
  v2570.toNat
def k0_dev96 (d0 : Dev nD) : Nat :=
  let c0_i32_2804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2803 : BitVec 32 := 1#32
  let v2573 : BitVec 32 := Scalar.muli v7 c1_i32_2803
  let v2574 : BitVec 32 := Scalar.addi c0_i32_2804 v2573
  v2574.toNat
def k0_dev97 (d0 : Dev nD) : Nat :=
  let c0_i32_2843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2842 : BitVec 32 := 1#32
  let v2606 : BitVec 32 := Scalar.muli v7 c1_i32_2842
  let v2607 : BitVec 32 := Scalar.addi c0_i32_2843 v2606
  v2607.toNat
def k0_dev98 (d0 : Dev nD) : Nat :=
  let c0_i32_2854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2853 : BitVec 32 := 1#32
  let v2610 : BitVec 32 := Scalar.muli v5 c1_i32_2853
  let v2611 : BitVec 32 := Scalar.addi c0_i32_2854 v2610
  v2611.toNat
def k0_dev99 (d0 : Dev nD) : Nat :=
  let c0_i32_2893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2892 : BitVec 32 := 1#32
  let v2643 : BitVec 32 := Scalar.muli v5 c1_i32_2892
  let v2644 : BitVec 32 := Scalar.addi c0_i32_2893 v2643
  v2644.toNat
def k0_dev100 (d0 : Dev nD) : Nat :=
  let c0_i32_2904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2903 : BitVec 32 := 1#32
  let v2647 : BitVec 32 := Scalar.muli v7 c1_i32_2903
  let v2648 : BitVec 32 := Scalar.addi c0_i32_2904 v2647
  v2648.toNat
def k0_dev101 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2942 : BitVec 32 := 1#32
  let v2680 : BitVec 32 := Scalar.muli v7 c1_i32_2942
  let v2681 : BitVec 32 := Scalar.addi c0_i32_2943 v2680
  v2681.toNat
def k0_dev102 (d0 : Dev nD) : Nat :=
  let c0_i32_2954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2953 : BitVec 32 := 1#32
  let v2684 : BitVec 32 := Scalar.muli v5 c1_i32_2953
  let v2685 : BitVec 32 := Scalar.addi c0_i32_2954 v2684
  v2685.toNat
def k0_dev103 (d0 : Dev nD) : Nat :=
  let c0_i32_2993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2992 : BitVec 32 := 1#32
  let v2717 : BitVec 32 := Scalar.muli v5 c1_i32_2992
  let v2718 : BitVec 32 := Scalar.addi c0_i32_2993 v2717
  v2718.toNat
def k0_dev104 (d0 : Dev nD) : Nat :=
  let c0_i32_3004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3003 : BitVec 32 := 1#32
  let v2721 : BitVec 32 := Scalar.muli v7 c1_i32_3003
  let v2722 : BitVec 32 := Scalar.addi c0_i32_3004 v2721
  v2722.toNat
def k0_dev105 (d0 : Dev nD) : Nat :=
  let c0_i32_3043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3042 : BitVec 32 := 1#32
  let v2754 : BitVec 32 := Scalar.muli v7 c1_i32_3042
  let v2755 : BitVec 32 := Scalar.addi c0_i32_3043 v2754
  v2755.toNat
def k0_dev106 (d0 : Dev nD) : Nat :=
  let c0_i32_3054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3053 : BitVec 32 := 1#32
  let v2758 : BitVec 32 := Scalar.muli v5 c1_i32_3053
  let v2759 : BitVec 32 := Scalar.addi c0_i32_3054 v2758
  v2759.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3163 : BitVec 32 := 1#32
  let v2915 : BitVec 32 := Scalar.addi v2 c1_i32_3163
  let c8_i32_3164 : BitVec 32 := 8#32
  let v2916 : BitVec 32 := Scalar.remsi v2915 c8_i32_3164
  let c512_i32_3165 : BitVec 32 := 512#32
  let v2917 : BitVec 32 := Scalar.muli v2916 c512_i32_3165
  let c0_i32_3169 : BitVec 32 := 0#32
  ![v2917.toNat, 0]
def k0_dev107 (d0 : Dev nD) : Nat :=
  let c0_i32_3186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3185 : BitVec 32 := 1#32
  let v2931 : BitVec 32 := Scalar.muli v5 c1_i32_3185
  let v2932 : BitVec 32 := Scalar.addi c0_i32_3186 v2931
  v2932.toNat
def k0_dev108 (d0 : Dev nD) : Nat :=
  let c0_i32_3197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3196 : BitVec 32 := 1#32
  let v2935 : BitVec 32 := Scalar.muli v7 c1_i32_3196
  let v2936 : BitVec 32 := Scalar.addi c0_i32_3197 v2935
  v2936.toNat
def k0_off5 (d0 : Dev nD) (c7_i32_3222 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2960 : BitVec 32 := Scalar.addi v2 c7_i32_3222
  let c8_i32_3223 : BitVec 32 := 8#32
  let v2961 : BitVec 32 := Scalar.remsi v2960 c8_i32_3223
  let c512_i32_3224 : BitVec 32 := 512#32
  let v2962 : BitVec 32 := Scalar.muli v2961 c512_i32_3224
  let c4096_i32 : BitVec 32 := 4096#32
  ![v2962.toNat, 4096]
def k0_dev109 (d0 : Dev nD) : Nat :=
  let c0_i32_3244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3243 : BitVec 32 := 1#32
  let v2976 : BitVec 32 := Scalar.muli v7 c1_i32_3243
  let v2977 : BitVec 32 := Scalar.addi c0_i32_3244 v2976
  v2977.toNat
def k0_dev110 (d0 : Dev nD) : Nat :=
  let c0_i32_3255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3254 : BitVec 32 := 1#32
  let v2980 : BitVec 32 := Scalar.muli v5 c1_i32_3254
  let v2981 : BitVec 32 := Scalar.addi c0_i32_3255 v2980
  v2981.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3280 : BitVec 32 := 1#32
  let v3005 : BitVec 32 := Scalar.addi v2 c1_i32_3280
  let c8_i32_3281 : BitVec 32 := 8#32
  let v3006 : BitVec 32 := Scalar.remsi v3005 c8_i32_3281
  let c512_i32_3282 : BitVec 32 := 512#32
  let v3007 : BitVec 32 := Scalar.muli v3006 c512_i32_3282
  let c1024_i32 : BitVec 32 := 1024#32
  ![v3007.toNat, 1024]
def k0_dev111 (d0 : Dev nD) : Nat :=
  let c0_i32_3302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3301 : BitVec 32 := 1#32
  let v3021 : BitVec 32 := Scalar.muli v5 c1_i32_3301
  let v3022 : BitVec 32 := Scalar.addi c0_i32_3302 v3021
  v3022.toNat
def k0_dev112 (d0 : Dev nD) : Nat :=
  let c0_i32_3313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3312 : BitVec 32 := 1#32
  let v3025 : BitVec 32 := Scalar.muli v7 c1_i32_3312
  let v3026 : BitVec 32 := Scalar.addi c0_i32_3313 v3025
  v3026.toNat
def k0_off7 (d0 : Dev nD) (c7_i32_3338 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3050 : BitVec 32 := Scalar.addi v2 c7_i32_3338
  let c8_i32_3339 : BitVec 32 := 8#32
  let v3051 : BitVec 32 := Scalar.remsi v3050 c8_i32_3339
  let c512_i32_3340 : BitVec 32 := 512#32
  let v3052 : BitVec 32 := Scalar.muli v3051 c512_i32_3340
  let c5120_i32 : BitVec 32 := 5120#32
  ![v3052.toNat, 5120]
def k0_dev113 (d0 : Dev nD) : Nat :=
  let c0_i32_3360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3359 : BitVec 32 := 1#32
  let v3066 : BitVec 32 := Scalar.muli v7 c1_i32_3359
  let v3067 : BitVec 32 := Scalar.addi c0_i32_3360 v3066
  v3067.toNat
def k0_dev114 (d0 : Dev nD) : Nat :=
  let c0_i32_3371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3370 : BitVec 32 := 1#32
  let v3070 : BitVec 32 := Scalar.muli v5 c1_i32_3370
  let v3071 : BitVec 32 := Scalar.addi c0_i32_3371 v3070
  v3071.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3396 : BitVec 32 := 1#32
  let v3095 : BitVec 32 := Scalar.addi v2 c1_i32_3396
  let c8_i32_3397 : BitVec 32 := 8#32
  let v3096 : BitVec 32 := Scalar.remsi v3095 c8_i32_3397
  let c512_i32_3398 : BitVec 32 := 512#32
  let v3097 : BitVec 32 := Scalar.muli v3096 c512_i32_3398
  let c2048_i32 : BitVec 32 := 2048#32
  ![v3097.toNat, 2048]
def k0_dev115 (d0 : Dev nD) : Nat :=
  let c0_i32_3418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3417 : BitVec 32 := 1#32
  let v3111 : BitVec 32 := Scalar.muli v5 c1_i32_3417
  let v3112 : BitVec 32 := Scalar.addi c0_i32_3418 v3111
  v3112.toNat
def k0_dev116 (d0 : Dev nD) : Nat :=
  let c0_i32_3429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3428 : BitVec 32 := 1#32
  let v3115 : BitVec 32 := Scalar.muli v7 c1_i32_3428
  let v3116 : BitVec 32 := Scalar.addi c0_i32_3429 v3115
  v3116.toNat
def k0_off9 (d0 : Dev nD) (c7_i32_3454 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3140 : BitVec 32 := Scalar.addi v2 c7_i32_3454
  let c8_i32_3455 : BitVec 32 := 8#32
  let v3141 : BitVec 32 := Scalar.remsi v3140 c8_i32_3455
  let c512_i32_3456 : BitVec 32 := 512#32
  let v3142 : BitVec 32 := Scalar.muli v3141 c512_i32_3456
  let c6144_i32 : BitVec 32 := 6144#32
  ![v3142.toNat, 6144]
def k0_dev117 (d0 : Dev nD) : Nat :=
  let c0_i32_3476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3475 : BitVec 32 := 1#32
  let v3156 : BitVec 32 := Scalar.muli v7 c1_i32_3475
  let v3157 : BitVec 32 := Scalar.addi c0_i32_3476 v3156
  v3157.toNat
def k0_dev118 (d0 : Dev nD) : Nat :=
  let c0_i32_3487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3486 : BitVec 32 := 1#32
  let v3160 : BitVec 32 := Scalar.muli v5 c1_i32_3486
  let v3161 : BitVec 32 := Scalar.addi c0_i32_3487 v3160
  v3161.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3512 : BitVec 32 := 1#32
  let v3185 : BitVec 32 := Scalar.addi v2 c1_i32_3512
  let c8_i32_3513 : BitVec 32 := 8#32
  let v3186 : BitVec 32 := Scalar.remsi v3185 c8_i32_3513
  let c512_i32_3514 : BitVec 32 := 512#32
  let v3187 : BitVec 32 := Scalar.muli v3186 c512_i32_3514
  let c3072_i32 : BitVec 32 := 3072#32
  ![v3187.toNat, 3072]
def k0_dev119 (d0 : Dev nD) : Nat :=
  let c0_i32_3534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3533 : BitVec 32 := 1#32
  let v3201 : BitVec 32 := Scalar.muli v5 c1_i32_3533
  let v3202 : BitVec 32 := Scalar.addi c0_i32_3534 v3201
  v3202.toNat
def k0_dev120 (d0 : Dev nD) : Nat :=
  let c0_i32_3545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3544 : BitVec 32 := 1#32
  let v3205 : BitVec 32 := Scalar.muli v7 c1_i32_3544
  let v3206 : BitVec 32 := Scalar.addi c0_i32_3545 v3205
  v3206.toNat
def k0_off11 (d0 : Dev nD) (c7_i32_3570 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3230 : BitVec 32 := Scalar.addi v2 c7_i32_3570
  let c8_i32_3571 : BitVec 32 := 8#32
  let v3231 : BitVec 32 := Scalar.remsi v3230 c8_i32_3571
  let c512_i32_3572 : BitVec 32 := 512#32
  let v3232 : BitVec 32 := Scalar.muli v3231 c512_i32_3572
  let c7168_i32 : BitVec 32 := 7168#32
  ![v3232.toNat, 7168]
def k0_dev121 (d0 : Dev nD) : Nat :=
  let c0_i32_3592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3591 : BitVec 32 := 1#32
  let v3246 : BitVec 32 := Scalar.muli v7 c1_i32_3591
  let v3247 : BitVec 32 := Scalar.addi c0_i32_3592 v3246
  v3247.toNat
def k0_dev122 (d0 : Dev nD) : Nat :=
  let c0_i32_3603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3602 : BitVec 32 := 1#32
  let v3250 : BitVec 32 := Scalar.muli v5 c1_i32_3602
  let v3251 : BitVec 32 := Scalar.addi c0_i32_3603 v3250
  v3251.toNat
def k0_off12 (d0 : Dev nD) (c0_i32_3621 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_3620 : BitVec 32 := 8#32
  let v3268 : BitVec 32 := Scalar.addi v2 c8_i32_3620
  let v3269 : BitVec 32 := Scalar.subi v3268 c0_i32_3621
  let c8_i32_3622 : BitVec 32 := 8#32
  let v3270 : BitVec 32 := Scalar.remsi v3269 c8_i32_3622
  let c512_i32_3623 : BitVec 32 := 512#32
  let v3271 : BitVec 32 := Scalar.muli v3270 c512_i32_3623
  let c0_i32_3627 : BitVec 32 := 0#32
  ![v3271.toNat, 0]
def k0_dev123 (d0 : Dev nD) : Nat :=
  let c0_i32_3650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3649 : BitVec 32 := 1#32
  let v3290 : BitVec 32 := Scalar.muli v5 c1_i32_3649
  let v3291 : BitVec 32 := Scalar.addi c0_i32_3650 v3290
  v3291.toNat
def k0_dev124 (d0 : Dev nD) : Nat :=
  let c0_i32_3661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3660 : BitVec 32 := 1#32
  let v3294 : BitVec 32 := Scalar.muli v7 c1_i32_3660
  let v3295 : BitVec 32 := Scalar.addi c0_i32_3661 v3294
  v3295.toNat
def k0_dev125 (d0 : Dev nD) : Nat :=
  let c0_i32_3707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3706 : BitVec 32 := 1#32
  let v3333 : BitVec 32 := Scalar.muli v7 c1_i32_3706
  let v3334 : BitVec 32 := Scalar.addi c0_i32_3707 v3333
  v3334.toNat
def k0_dev126 (d0 : Dev nD) : Nat :=
  let c0_i32_3718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3717 : BitVec 32 := 1#32
  let v3337 : BitVec 32 := Scalar.muli v5 c1_i32_3717
  let v3338 : BitVec 32 := Scalar.addi c0_i32_3718 v3337
  v3338.toNat
def k0_off13 (d0 : Dev nD) (c0_i32_3736 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_3735 : BitVec 32 := 8#32
  let v3355 : BitVec 32 := Scalar.addi v2 c8_i32_3735
  let v3356 : BitVec 32 := Scalar.subi v3355 c0_i32_3736
  let c8_i32_3737 : BitVec 32 := 8#32
  let v3357 : BitVec 32 := Scalar.remsi v3356 c8_i32_3737
  let c512_i32_3738 : BitVec 32 := 512#32
  let v3358 : BitVec 32 := Scalar.muli v3357 c512_i32_3738
  let c1024_i32_3742 : BitVec 32 := 1024#32
  ![v3358.toNat, 1024]
def k0_dev127 (d0 : Dev nD) : Nat :=
  let c0_i32_3765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3764 : BitVec 32 := 1#32
  let v3377 : BitVec 32 := Scalar.muli v5 c1_i32_3764
  let v3378 : BitVec 32 := Scalar.addi c0_i32_3765 v3377
  v3378.toNat
def k0_dev128 (d0 : Dev nD) : Nat :=
  let c0_i32_3776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3775 : BitVec 32 := 1#32
  let v3381 : BitVec 32 := Scalar.muli v7 c1_i32_3775
  let v3382 : BitVec 32 := Scalar.addi c0_i32_3776 v3381
  v3382.toNat
def k0_dev129 (d0 : Dev nD) : Nat :=
  let c0_i32_3822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3821 : BitVec 32 := 1#32
  let v3420 : BitVec 32 := Scalar.muli v7 c1_i32_3821
  let v3421 : BitVec 32 := Scalar.addi c0_i32_3822 v3420
  v3421.toNat
def k0_dev130 (d0 : Dev nD) : Nat :=
  let c0_i32_3833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3832 : BitVec 32 := 1#32
  let v3424 : BitVec 32 := Scalar.muli v5 c1_i32_3832
  let v3425 : BitVec 32 := Scalar.addi c0_i32_3833 v3424
  v3425.toNat
def k0_off14 (d0 : Dev nD) (c0_i32_3851 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_3850 : BitVec 32 := 8#32
  let v3442 : BitVec 32 := Scalar.addi v2 c8_i32_3850
  let v3443 : BitVec 32 := Scalar.subi v3442 c0_i32_3851
  let c8_i32_3852 : BitVec 32 := 8#32
  let v3444 : BitVec 32 := Scalar.remsi v3443 c8_i32_3852
  let c512_i32_3853 : BitVec 32 := 512#32
  let v3445 : BitVec 32 := Scalar.muli v3444 c512_i32_3853
  let c2048_i32_3857 : BitVec 32 := 2048#32
  ![v3445.toNat, 2048]
def k0_dev131 (d0 : Dev nD) : Nat :=
  let c0_i32_3880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3879 : BitVec 32 := 1#32
  let v3464 : BitVec 32 := Scalar.muli v5 c1_i32_3879
  let v3465 : BitVec 32 := Scalar.addi c0_i32_3880 v3464
  v3465.toNat
def k0_dev132 (d0 : Dev nD) : Nat :=
  let c0_i32_3891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3890 : BitVec 32 := 1#32
  let v3468 : BitVec 32 := Scalar.muli v7 c1_i32_3890
  let v3469 : BitVec 32 := Scalar.addi c0_i32_3891 v3468
  v3469.toNat
def k0_dev133 (d0 : Dev nD) : Nat :=
  let c0_i32_3937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3936 : BitVec 32 := 1#32
  let v3507 : BitVec 32 := Scalar.muli v7 c1_i32_3936
  let v3508 : BitVec 32 := Scalar.addi c0_i32_3937 v3507
  v3508.toNat
def k0_dev134 (d0 : Dev nD) : Nat :=
  let c0_i32_3948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3947 : BitVec 32 := 1#32
  let v3511 : BitVec 32 := Scalar.muli v5 c1_i32_3947
  let v3512 : BitVec 32 := Scalar.addi c0_i32_3948 v3511
  v3512.toNat
def k0_off15 (d0 : Dev nD) (c0_i32_3966 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_3965 : BitVec 32 := 8#32
  let v3529 : BitVec 32 := Scalar.addi v2 c8_i32_3965
  let v3530 : BitVec 32 := Scalar.subi v3529 c0_i32_3966
  let c8_i32_3967 : BitVec 32 := 8#32
  let v3531 : BitVec 32 := Scalar.remsi v3530 c8_i32_3967
  let c512_i32_3968 : BitVec 32 := 512#32
  let v3532 : BitVec 32 := Scalar.muli v3531 c512_i32_3968
  let c3072_i32_3972 : BitVec 32 := 3072#32
  ![v3532.toNat, 3072]
def k0_dev135 (d0 : Dev nD) : Nat :=
  let c0_i32_3995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3994 : BitVec 32 := 1#32
  let v3551 : BitVec 32 := Scalar.muli v5 c1_i32_3994
  let v3552 : BitVec 32 := Scalar.addi c0_i32_3995 v3551
  v3552.toNat
def k0_dev136 (d0 : Dev nD) : Nat :=
  let c0_i32_4006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4005 : BitVec 32 := 1#32
  let v3555 : BitVec 32 := Scalar.muli v7 c1_i32_4005
  let v3556 : BitVec 32 := Scalar.addi c0_i32_4006 v3555
  v3556.toNat
def k0_dev137 (d0 : Dev nD) : Nat :=
  let c0_i32_4052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4051 : BitVec 32 := 1#32
  let v3594 : BitVec 32 := Scalar.muli v7 c1_i32_4051
  let v3595 : BitVec 32 := Scalar.addi c0_i32_4052 v3594
  v3595.toNat
def k0_dev138 (d0 : Dev nD) : Nat :=
  let c0_i32_4063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4062 : BitVec 32 := 1#32
  let v3598 : BitVec 32 := Scalar.muli v5 c1_i32_4062
  let v3599 : BitVec 32 := Scalar.addi c0_i32_4063 v3598
  v3599.toNat
def k0_dev139 (d0 : Dev nD) : Nat :=
  let c0_i32_4110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4109 : BitVec 32 := 1#32
  let v3638 : BitVec 32 := Scalar.muli v5 c1_i32_4109
  let v3639 : BitVec 32 := Scalar.addi c0_i32_4110 v3638
  v3639.toNat
def k0_dev140 (d0 : Dev nD) : Nat :=
  let c0_i32_4121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4120 : BitVec 32 := 1#32
  let v3642 : BitVec 32 := Scalar.muli v7 c1_i32_4120
  let v3643 : BitVec 32 := Scalar.addi c0_i32_4121 v3642
  v3643.toNat
def k0_dev141 (d0 : Dev nD) : Nat :=
  let c0_i32_4167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4166 : BitVec 32 := 1#32
  let v3681 : BitVec 32 := Scalar.muli v7 c1_i32_4166
  let v3682 : BitVec 32 := Scalar.addi c0_i32_4167 v3681
  v3682.toNat
def k0_dev142 (d0 : Dev nD) : Nat :=
  let c0_i32_4178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4177 : BitVec 32 := 1#32
  let v3685 : BitVec 32 := Scalar.muli v5 c1_i32_4177
  let v3686 : BitVec 32 := Scalar.addi c0_i32_4178 v3685
  v3686.toNat
def k0_dev143 (d0 : Dev nD) : Nat :=
  let c0_i32_4225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4224 : BitVec 32 := 1#32
  let v3725 : BitVec 32 := Scalar.muli v5 c1_i32_4224
  let v3726 : BitVec 32 := Scalar.addi c0_i32_4225 v3725
  v3726.toNat
def k0_dev144 (d0 : Dev nD) : Nat :=
  let c0_i32_4236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4235 : BitVec 32 := 1#32
  let v3729 : BitVec 32 := Scalar.muli v7 c1_i32_4235
  let v3730 : BitVec 32 := Scalar.addi c0_i32_4236 v3729
  v3730.toNat
def k0_dev145 (d0 : Dev nD) : Nat :=
  let c0_i32_4282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4281 : BitVec 32 := 1#32
  let v3768 : BitVec 32 := Scalar.muli v7 c1_i32_4281
  let v3769 : BitVec 32 := Scalar.addi c0_i32_4282 v3768
  v3769.toNat
def k0_dev146 (d0 : Dev nD) : Nat :=
  let c0_i32_4293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4292 : BitVec 32 := 1#32
  let v3772 : BitVec 32 := Scalar.muli v5 c1_i32_4292
  let v3773 : BitVec 32 := Scalar.addi c0_i32_4293 v3772
  v3773.toNat
def k0_dev147 (d0 : Dev nD) : Nat :=
  let c0_i32_4340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4339 : BitVec 32 := 1#32
  let v3812 : BitVec 32 := Scalar.muli v5 c1_i32_4339
  let v3813 : BitVec 32 := Scalar.addi c0_i32_4340 v3812
  v3813.toNat
def k0_dev148 (d0 : Dev nD) : Nat :=
  let c0_i32_4351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4350 : BitVec 32 := 1#32
  let v3816 : BitVec 32 := Scalar.muli v7 c1_i32_4350
  let v3817 : BitVec 32 := Scalar.addi c0_i32_4351 v3816
  v3817.toNat
def k0_dev149 (d0 : Dev nD) : Nat :=
  let c0_i32_4397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4396 : BitVec 32 := 1#32
  let v3855 : BitVec 32 := Scalar.muli v7 c1_i32_4396
  let v3856 : BitVec 32 := Scalar.addi c0_i32_4397 v3855
  v3856.toNat
def k0_dev150 (d0 : Dev nD) : Nat :=
  let c0_i32_4408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4407 : BitVec 32 := 1#32
  let v3859 : BitVec 32 := Scalar.muli v5 c1_i32_4407
  let v3860 : BitVec 32 := Scalar.addi c0_i32_4408 v3859
  v3860.toNat
def k0_dev151 (d0 : Dev nD) : Nat :=
  let c0_i32_4455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4454 : BitVec 32 := 1#32
  let v3899 : BitVec 32 := Scalar.muli v5 c1_i32_4454
  let v3900 : BitVec 32 := Scalar.addi c0_i32_4455 v3899
  v3900.toNat
def k0_dev152 (d0 : Dev nD) : Nat :=
  let c0_i32_4466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4465 : BitVec 32 := 1#32
  let v3903 : BitVec 32 := Scalar.muli v7 c1_i32_4465
  let v3904 : BitVec 32 := Scalar.addi c0_i32_4466 v3903
  v3904.toNat
def k0_dev153 (d0 : Dev nD) : Nat :=
  let c0_i32_4512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4511 : BitVec 32 := 1#32
  let v3942 : BitVec 32 := Scalar.muli v7 c1_i32_4511
  let v3943 : BitVec 32 := Scalar.addi c0_i32_4512 v3942
  v3943.toNat
def k0_dev154 (d0 : Dev nD) : Nat :=
  let c0_i32_4523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4522 : BitVec 32 := 1#32
  let v3946 : BitVec 32 := Scalar.muli v5 c1_i32_4522
  let v3947 : BitVec 32 := Scalar.addi c0_i32_4523 v3946
  v3947.toNat
def k0_dev155 (d0 : Dev nD) : Nat :=
  let c0_i32_4570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4569 : BitVec 32 := 1#32
  let v3986 : BitVec 32 := Scalar.muli v5 c1_i32_4569
  let v3987 : BitVec 32 := Scalar.addi c0_i32_4570 v3986
  v3987.toNat
def k0_dev156 (d0 : Dev nD) : Nat :=
  let c0_i32_4581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4580 : BitVec 32 := 1#32
  let v3990 : BitVec 32 := Scalar.muli v7 c1_i32_4580
  let v3991 : BitVec 32 := Scalar.addi c0_i32_4581 v3990
  v3991.toNat
def k0_dev157 (d0 : Dev nD) : Nat :=
  let c0_i32_4627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4626 : BitVec 32 := 1#32
  let v4029 : BitVec 32 := Scalar.muli v7 c1_i32_4626
  let v4030 : BitVec 32 := Scalar.addi c0_i32_4627 v4029
  v4030.toNat
def k0_dev158 (d0 : Dev nD) : Nat :=
  let c0_i32_4638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4637 : BitVec 32 := 1#32
  let v4033 : BitVec 32 := Scalar.muli v5 c1_i32_4637
  let v4034 : BitVec 32 := Scalar.addi c0_i32_4638 v4033
  v4034.toNat
def k0_dev159 (d0 : Dev nD) : Nat :=
  let c0_i32_4685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4684 : BitVec 32 := 1#32
  let v4073 : BitVec 32 := Scalar.muli v5 c1_i32_4684
  let v4074 : BitVec 32 := Scalar.addi c0_i32_4685 v4073
  v4074.toNat
def k0_dev160 (d0 : Dev nD) : Nat :=
  let c0_i32_4696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4695 : BitVec 32 := 1#32
  let v4077 : BitVec 32 := Scalar.muli v7 c1_i32_4695
  let v4078 : BitVec 32 := Scalar.addi c0_i32_4696 v4077
  v4078.toNat
def k0_dev161 (d0 : Dev nD) : Nat :=
  let c0_i32_4742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4741 : BitVec 32 := 1#32
  let v4116 : BitVec 32 := Scalar.muli v7 c1_i32_4741
  let v4117 : BitVec 32 := Scalar.addi c0_i32_4742 v4116
  v4117.toNat
def k0_dev162 (d0 : Dev nD) : Nat :=
  let c0_i32_4753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4752 : BitVec 32 := 1#32
  let v4120 : BitVec 32 := Scalar.muli v5 c1_i32_4752
  let v4121 : BitVec 32 := Scalar.addi c0_i32_4753 v4120
  v4121.toNat
def k0_dev163 (d0 : Dev nD) : Nat :=
  let c0_i32_4800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4799 : BitVec 32 := 1#32
  let v4160 : BitVec 32 := Scalar.muli v5 c1_i32_4799
  let v4161 : BitVec 32 := Scalar.addi c0_i32_4800 v4160
  v4161.toNat
def k0_dev164 (d0 : Dev nD) : Nat :=
  let c0_i32_4811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4810 : BitVec 32 := 1#32
  let v4164 : BitVec 32 := Scalar.muli v7 c1_i32_4810
  let v4165 : BitVec 32 := Scalar.addi c0_i32_4811 v4164
  v4165.toNat
def k0_dev165 (d0 : Dev nD) : Nat :=
  let c0_i32_4857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4856 : BitVec 32 := 1#32
  let v4203 : BitVec 32 := Scalar.muli v7 c1_i32_4856
  let v4204 : BitVec 32 := Scalar.addi c0_i32_4857 v4203
  v4204.toNat
def k0_dev166 (d0 : Dev nD) : Nat :=
  let c0_i32_4868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4867 : BitVec 32 := 1#32
  let v4207 : BitVec 32 := Scalar.muli v5 c1_i32_4867
  let v4208 : BitVec 32 := Scalar.addi c0_i32_4868 v4207
  v4208.toNat
def k0_dev167 (d0 : Dev nD) : Nat :=
  let c0_i32_4915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4914 : BitVec 32 := 1#32
  let v4247 : BitVec 32 := Scalar.muli v5 c1_i32_4914
  let v4248 : BitVec 32 := Scalar.addi c0_i32_4915 v4247
  v4248.toNat
def k0_dev168 (d0 : Dev nD) : Nat :=
  let c0_i32_4926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4925 : BitVec 32 := 1#32
  let v4251 : BitVec 32 := Scalar.muli v7 c1_i32_4925
  let v4252 : BitVec 32 := Scalar.addi c0_i32_4926 v4251
  v4252.toNat
def k0_dev169 (d0 : Dev nD) : Nat :=
  let c0_i32_4972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4971 : BitVec 32 := 1#32
  let v4290 : BitVec 32 := Scalar.muli v7 c1_i32_4971
  let v4291 : BitVec 32 := Scalar.addi c0_i32_4972 v4290
  v4291.toNat
def k0_dev170 (d0 : Dev nD) : Nat :=
  let c0_i32_4983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4982 : BitVec 32 := 1#32
  let v4294 : BitVec 32 := Scalar.muli v5 c1_i32_4982
  let v4295 : BitVec 32 := Scalar.addi c0_i32_4983 v4294
  v4295.toNat
def k0_dev171 (d0 : Dev nD) : Nat :=
  let c0_i32_5030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5029 : BitVec 32 := 1#32
  let v4334 : BitVec 32 := Scalar.muli v5 c1_i32_5029
  let v4335 : BitVec 32 := Scalar.addi c0_i32_5030 v4334
  v4335.toNat
def k0_dev172 (d0 : Dev nD) : Nat :=
  let c0_i32_5041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5040 : BitVec 32 := 1#32
  let v4338 : BitVec 32 := Scalar.muli v7 c1_i32_5040
  let v4339 : BitVec 32 := Scalar.addi c0_i32_5041 v4338
  v4339.toNat
def k0_dev173 (d0 : Dev nD) : Nat :=
  let c0_i32_5087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5086 : BitVec 32 := 1#32
  let v4377 : BitVec 32 := Scalar.muli v7 c1_i32_5086
  let v4378 : BitVec 32 := Scalar.addi c0_i32_5087 v4377
  v4378.toNat
def k0_dev174 (d0 : Dev nD) : Nat :=
  let c0_i32_5098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5097 : BitVec 32 := 1#32
  let v4381 : BitVec 32 := Scalar.muli v5 c1_i32_5097
  let v4382 : BitVec 32 := Scalar.addi c0_i32_5098 v4381
  v4382.toNat
def k0_dev175 (d0 : Dev nD) : Nat :=
  let c0_i32_5145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5144 : BitVec 32 := 1#32
  let v4421 : BitVec 32 := Scalar.muli v5 c1_i32_5144
  let v4422 : BitVec 32 := Scalar.addi c0_i32_5145 v4421
  v4422.toNat
def k0_dev176 (d0 : Dev nD) : Nat :=
  let c0_i32_5156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5155 : BitVec 32 := 1#32
  let v4425 : BitVec 32 := Scalar.muli v7 c1_i32_5155
  let v4426 : BitVec 32 := Scalar.addi c0_i32_5156 v4425
  v4426.toNat
def k0_dev177 (d0 : Dev nD) : Nat :=
  let c0_i32_5202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5201 : BitVec 32 := 1#32
  let v4464 : BitVec 32 := Scalar.muli v7 c1_i32_5201
  let v4465 : BitVec 32 := Scalar.addi c0_i32_5202 v4464
  v4465.toNat
def k0_dev178 (d0 : Dev nD) : Nat :=
  let c0_i32_5213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5212 : BitVec 32 := 1#32
  let v4468 : BitVec 32 := Scalar.muli v5 c1_i32_5212
  let v4469 : BitVec 32 := Scalar.addi c0_i32_5213 v4468
  v4469.toNat
def k0_dev179 (d0 : Dev nD) : Nat :=
  let c0_i32_5260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5259 : BitVec 32 := 1#32
  let v4508 : BitVec 32 := Scalar.muli v5 c1_i32_5259
  let v4509 : BitVec 32 := Scalar.addi c0_i32_5260 v4508
  v4509.toNat
def k0_dev180 (d0 : Dev nD) : Nat :=
  let c0_i32_5271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5270 : BitVec 32 := 1#32
  let v4512 : BitVec 32 := Scalar.muli v7 c1_i32_5270
  let v4513 : BitVec 32 := Scalar.addi c0_i32_5271 v4512
  v4513.toNat
def k0_dev181 (d0 : Dev nD) : Nat :=
  let c0_i32_5317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5316 : BitVec 32 := 1#32
  let v4551 : BitVec 32 := Scalar.muli v7 c1_i32_5316
  let v4552 : BitVec 32 := Scalar.addi c0_i32_5317 v4551
  v4552.toNat
def k0_dev182 (d0 : Dev nD) : Nat :=
  let c0_i32_5328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5327 : BitVec 32 := 1#32
  let v4555 : BitVec 32 := Scalar.muli v5 c1_i32_5327
  let v4556 : BitVec 32 := Scalar.addi c0_i32_5328 v4555
  v4556.toNat
def k0_dev183 (d0 : Dev nD) : Nat :=
  let c0_i32_5375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5374 : BitVec 32 := 1#32
  let v4595 : BitVec 32 := Scalar.muli v5 c1_i32_5374
  let v4596 : BitVec 32 := Scalar.addi c0_i32_5375 v4595
  v4596.toNat
def k0_dev184 (d0 : Dev nD) : Nat :=
  let c0_i32_5386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5385 : BitVec 32 := 1#32
  let v4599 : BitVec 32 := Scalar.muli v7 c1_i32_5385
  let v4600 : BitVec 32 := Scalar.addi c0_i32_5386 v4599
  v4600.toNat
def k0_dev185 (d0 : Dev nD) : Nat :=
  let c0_i32_5432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5431 : BitVec 32 := 1#32
  let v4638 : BitVec 32 := Scalar.muli v7 c1_i32_5431
  let v4639 : BitVec 32 := Scalar.addi c0_i32_5432 v4638
  v4639.toNat
def k0_dev186 (d0 : Dev nD) : Nat :=
  let c0_i32_5443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5442 : BitVec 32 := 1#32
  let v4642 : BitVec 32 := Scalar.muli v5 c1_i32_5442
  let v4643 : BitVec 32 := Scalar.addi c0_i32_5443 v4642
  v4643.toNat
def k0_dev187 (d0 : Dev nD) : Nat :=
  let c0_i32_5490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5489 : BitVec 32 := 1#32
  let v4682 : BitVec 32 := Scalar.muli v5 c1_i32_5489
  let v4683 : BitVec 32 := Scalar.addi c0_i32_5490 v4682
  v4683.toNat
def k0_dev188 (d0 : Dev nD) : Nat :=
  let c0_i32_5501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5500 : BitVec 32 := 1#32
  let v4686 : BitVec 32 := Scalar.muli v7 c1_i32_5500
  let v4687 : BitVec 32 := Scalar.addi c0_i32_5501 v4686
  v4687.toNat
def k0_dev189 (d0 : Dev nD) : Nat :=
  let c0_i32_5547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5546 : BitVec 32 := 1#32
  let v4725 : BitVec 32 := Scalar.muli v7 c1_i32_5546
  let v4726 : BitVec 32 := Scalar.addi c0_i32_5547 v4725
  v4726.toNat
def k0_dev190 (d0 : Dev nD) : Nat :=
  let c0_i32_5558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5557 : BitVec 32 := 1#32
  let v4729 : BitVec 32 := Scalar.muli v5 c1_i32_5557
  let v4730 : BitVec 32 := Scalar.addi c0_i32_5558 v4729
  v4730.toNat
def k0_dev191 (d0 : Dev nD) : Nat :=
  let c0_i32_5605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5604 : BitVec 32 := 1#32
  let v4769 : BitVec 32 := Scalar.muli v5 c1_i32_5604
  let v4770 : BitVec 32 := Scalar.addi c0_i32_5605 v4769
  v4770.toNat
def k0_dev192 (d0 : Dev nD) : Nat :=
  let c0_i32_5616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5615 : BitVec 32 := 1#32
  let v4773 : BitVec 32 := Scalar.muli v7 c1_i32_5615
  let v4774 : BitVec 32 := Scalar.addi c0_i32_5616 v4773
  v4774.toNat
def k0_dev193 (d0 : Dev nD) : Nat :=
  let c0_i32_5662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5661 : BitVec 32 := 1#32
  let v4812 : BitVec 32 := Scalar.muli v7 c1_i32_5661
  let v4813 : BitVec 32 := Scalar.addi c0_i32_5662 v4812
  v4813.toNat
def k0_dev194 (d0 : Dev nD) : Nat :=
  let c0_i32_5673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5672 : BitVec 32 := 1#32
  let v4816 : BitVec 32 := Scalar.muli v5 c1_i32_5672
  let v4817 : BitVec 32 := Scalar.addi c0_i32_5673 v4816
  v4817.toNat
def k0_dev195 (d0 : Dev nD) : Nat :=
  let c0_i32_5720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5719 : BitVec 32 := 1#32
  let v4856 : BitVec 32 := Scalar.muli v5 c1_i32_5719
  let v4857 : BitVec 32 := Scalar.addi c0_i32_5720 v4856
  v4857.toNat
def k0_dev196 (d0 : Dev nD) : Nat :=
  let c0_i32_5731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5730 : BitVec 32 := 1#32
  let v4860 : BitVec 32 := Scalar.muli v7 c1_i32_5730
  let v4861 : BitVec 32 := Scalar.addi c0_i32_5731 v4860
  v4861.toNat
def k0_dev197 (d0 : Dev nD) : Nat :=
  let c0_i32_5777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5776 : BitVec 32 := 1#32
  let v4899 : BitVec 32 := Scalar.muli v7 c1_i32_5776
  let v4900 : BitVec 32 := Scalar.addi c0_i32_5777 v4899
  v4900.toNat
def k0_dev198 (d0 : Dev nD) : Nat :=
  let c0_i32_5788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5787 : BitVec 32 := 1#32
  let v4903 : BitVec 32 := Scalar.muli v5 c1_i32_5787
  let v4904 : BitVec 32 := Scalar.addi c0_i32_5788 v4903
  v4904.toNat
def k0_dev199 (d0 : Dev nD) : Nat :=
  let c0_i32_5835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5834 : BitVec 32 := 1#32
  let v4943 : BitVec 32 := Scalar.muli v5 c1_i32_5834
  let v4944 : BitVec 32 := Scalar.addi c0_i32_5835 v4943
  v4944.toNat
def k0_dev200 (d0 : Dev nD) : Nat :=
  let c0_i32_5846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5845 : BitVec 32 := 1#32
  let v4947 : BitVec 32 := Scalar.muli v7 c1_i32_5845
  let v4948 : BitVec 32 := Scalar.addi c0_i32_5846 v4947
  v4948.toNat
def k0_dev201 (d0 : Dev nD) : Nat :=
  let c0_i32_5892 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5891 : BitVec 32 := 1#32
  let v4986 : BitVec 32 := Scalar.muli v7 c1_i32_5891
  let v4987 : BitVec 32 := Scalar.addi c0_i32_5892 v4986
  v4987.toNat
def k0_dev202 (d0 : Dev nD) : Nat :=
  let c0_i32_5903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5902 : BitVec 32 := 1#32
  let v4990 : BitVec 32 := Scalar.muli v5 c1_i32_5902
  let v4991 : BitVec 32 := Scalar.addi c0_i32_5903 v4990
  v4991.toNat
def k0_dev203 (d0 : Dev nD) : Nat :=
  let c0_i32_5950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5949 : BitVec 32 := 1#32
  let v5030 : BitVec 32 := Scalar.muli v5 c1_i32_5949
  let v5031 : BitVec 32 := Scalar.addi c0_i32_5950 v5030
  v5031.toNat
def k0_dev204 (d0 : Dev nD) : Nat :=
  let c0_i32_5961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5960 : BitVec 32 := 1#32
  let v5034 : BitVec 32 := Scalar.muli v7 c1_i32_5960
  let v5035 : BitVec 32 := Scalar.addi c0_i32_5961 v5034
  v5035.toNat
def k0_dev205 (d0 : Dev nD) : Nat :=
  let c0_i32_6007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6006 : BitVec 32 := 1#32
  let v5073 : BitVec 32 := Scalar.muli v7 c1_i32_6006
  let v5074 : BitVec 32 := Scalar.addi c0_i32_6007 v5073
  v5074.toNat
def k0_dev206 (d0 : Dev nD) : Nat :=
  let c0_i32_6018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6017 : BitVec 32 := 1#32
  let v5077 : BitVec 32 := Scalar.muli v5 c1_i32_6017
  let v5078 : BitVec 32 := Scalar.addi c0_i32_6018 v5077
  v5078.toNat
def k0_dev207 (d0 : Dev nD) : Nat :=
  let c0_i32_6065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6064 : BitVec 32 := 1#32
  let v5117 : BitVec 32 := Scalar.muli v5 c1_i32_6064
  let v5118 : BitVec 32 := Scalar.addi c0_i32_6065 v5117
  v5118.toNat
def k0_dev208 (d0 : Dev nD) : Nat :=
  let c0_i32_6076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6075 : BitVec 32 := 1#32
  let v5121 : BitVec 32 := Scalar.muli v7 c1_i32_6075
  let v5122 : BitVec 32 := Scalar.addi c0_i32_6076 v5121
  v5122.toNat
def k0_dev209 (d0 : Dev nD) : Nat :=
  let c0_i32_6122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6121 : BitVec 32 := 1#32
  let v5160 : BitVec 32 := Scalar.muli v7 c1_i32_6121
  let v5161 : BitVec 32 := Scalar.addi c0_i32_6122 v5160
  v5161.toNat
def k0_dev210 (d0 : Dev nD) : Nat :=
  let c0_i32_6133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6132 : BitVec 32 := 1#32
  let v5164 : BitVec 32 := Scalar.muli v5 c1_i32_6132
  let v5165 : BitVec 32 := Scalar.addi c0_i32_6133 v5164
  v5165.toNat
def k0_dev211 (d0 : Dev nD) : Nat :=
  let c0_i32_6180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6179 : BitVec 32 := 1#32
  let v5204 : BitVec 32 := Scalar.muli v5 c1_i32_6179
  let v5205 : BitVec 32 := Scalar.addi c0_i32_6180 v5204
  v5205.toNat
def k0_dev212 (d0 : Dev nD) : Nat :=
  let c0_i32_6191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6190 : BitVec 32 := 1#32
  let v5208 : BitVec 32 := Scalar.muli v7 c1_i32_6190
  let v5209 : BitVec 32 := Scalar.addi c0_i32_6191 v5208
  v5209.toNat
def k0_dev213 (d0 : Dev nD) : Nat :=
  let c0_i32_6237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6236 : BitVec 32 := 1#32
  let v5247 : BitVec 32 := Scalar.muli v7 c1_i32_6236
  let v5248 : BitVec 32 := Scalar.addi c0_i32_6237 v5247
  v5248.toNat
def k0_dev214 (d0 : Dev nD) : Nat :=
  let c0_i32_6248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6247 : BitVec 32 := 1#32
  let v5251 : BitVec 32 := Scalar.muli v5 c1_i32_6247
  let v5252 : BitVec 32 := Scalar.addi c0_i32_6248 v5251
  v5252.toNat
def k0_dev215 (d0 : Dev nD) : Nat :=
  let c0_i32_6295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6294 : BitVec 32 := 1#32
  let v5291 : BitVec 32 := Scalar.muli v5 c1_i32_6294
  let v5292 : BitVec 32 := Scalar.addi c0_i32_6295 v5291
  v5292.toNat
def k0_dev216 (d0 : Dev nD) : Nat :=
  let c0_i32_6306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6305 : BitVec 32 := 1#32
  let v5295 : BitVec 32 := Scalar.muli v7 c1_i32_6305
  let v5296 : BitVec 32 := Scalar.addi c0_i32_6306 v5295
  v5296.toNat
def k0_dev217 (d0 : Dev nD) : Nat :=
  let c0_i32_6352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_6351 : BitVec 32 := 1#32
  let v5334 : BitVec 32 := Scalar.muli v7 c1_i32_6351
  let v5335 : BitVec 32 := Scalar.addi c0_i32_6352 v5334
  v5335.toNat
def k0_dev218 (d0 : Dev nD) : Nat :=
  let c0_i32_6363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6362 : BitVec 32 := 1#32
  let v5338 : BitVec 32 := Scalar.muli v5 c1_i32_6362
  let v5339 : BitVec 32 := Scalar.addi c0_i32_6363 v5338
  v5339.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Clean.lean ====
/-
The kernel's body written once per lane and step.

The printed body is one straight line of some twelve hundred effects. Here the same effects are a
program indexed by the lane (which of the eight lanes of the ring) and the step (which of the fifteen
steps): `clean`. `body_eq_clean` says the two are the same program, so that everything proved of a
lane at a step is proved of every stretch of the body.
-/
module

public import proofs.«01_k».proof.Proof.Gen.KernelIdeal
public import Idealize.ShloMosaic.Lib.Pipeline.Regions

@[expose] public section

noncomputable section

namespace Cert.KernelIdeal.Ring

open Idealize.ShloMosaic Idealize.ShloMosaic.TcCoe Idealize.SL.Sem Cert.KernelIdeal.Gen

variable {F : FTy → Type} [FloatOps F]

/-- A lane's program text: effects of a TensorCore, ending in nothing. -/
abbrev Pr (F : FTy → Type) := Prog (TpuEff nD τ sig (Elt F) Λ₀ .tc) PUnit

/-! ## Buffers, semaphores, devices and offsets, by lane -/

/-- The two-slot landing buffer of a lane. -/
def slotM : Fin 8 → Memref sig .tc .vmem S2x512x1024 .f32
  | 0 => Memref.whole cc0_scratch0 | 1 => Memref.whole cc0_scratch1 | 2 => Memref.whole cc0_scratch2
  | 3 => Memref.whole cc0_scratch3 | 4 => Memref.whole cc0_scratch4 | 5 => Memref.whole cc0_scratch5
  | 6 => Memref.whole cc0_scratch6 | 7 => Memref.whole cc0_scratch7

/-- The buffer of a lane's next partial product. -/
def pcM : Fin 8 → Memref sig .tc .vmem S512x1024 .f32
  | 0 => Memref.whole cc0_scratch8 | 1 => Memref.whole cc0_scratch9 | 2 => Memref.whole cc0_scratch10
  | 3 => Memref.whole cc0_scratch11 | 4 => Memref.whole cc0_scratch12 | 5 => Memref.whole cc0_scratch13
  | 6 => Memref.whole cc0_scratch14 | 7 => Memref.whole cc0_scratch15

/-- The semaphore a lane's departures complete on. -/
def sendS (l : Fin 8) : DmaSem sig := ⟨4 + 2 * l.val, by have := l.isLt; simp [sig]; omega⟩
/-- The semaphore a lane's arrivals complete on. -/
def recvS (l : Fin 8) : DmaSem sig := ⟨5 + 2 * l.val, by have := l.isLt; simp [sig]; omega⟩
/-- The semaphore a lane's copies out of slot `p` complete on. -/
def copyS (l : Fin 8) (p : Fin 2) : DmaSem sig :=
  ⟨20 + 2 * l.val + p.val, by have := l.isLt; have := p.isLt; simp [sig]; omega⟩
/-- The semaphore a lane's credit arrives on. -/
def credS (l : Fin 8) : Sem sig := ⟨l.val, by have := l.isLt; simp [sig]; omega⟩
/-- The barrier semaphore. -/
def barS : Sem sig := (SemArray.scalar (sig.barrier 0 rfl) : Sems sig S_).sem

/-- The device before, and the device after, on the ring. -/
def lft (d : Dev nD) : Dev nD := ⟨k0_dev1 d, k0_dev1_lt d⟩
def rgt (d : Dev nD) : Dev nD := ⟨k0_dev2 d, k0_dev2_lt d⟩

/-- Where a lane sends: the even lanes to the device after, the odd ones to the device before. -/
def dn (l : Fin 8) (d : Dev nD) : Dev nD := if l.val % 2 = 0 then rgt d else lft d
/-- Where a lane's arrivals come from. -/
def up (l : Fin 8) (d : Dev nD) : Dev nD := if l.val % 2 = 0 then lft d else rgt d

/-- The slot a step sends from is `par (s+1)`, the one it sends into `par s`. -/
def par (s : ℕ) : Fin 2 := ⟨s % 2, Nat.mod_lt _ (by decide)⟩

/-- The first column of a lane. -/
def base (l : Fin 8) : ℕ := l.val % 2 * 4096 + l.val / 2 * 1024

/-- The rows of the left operand that a step's partial product reads. -/
def rsOff (l : Fin 8) (d : Dev nD) (s : Fin 7) : Fin 2 → ℕ :=
  if l.val % 2 = 0 then k0_off2 d (BitVec.ofNat 32 s.val) else k0_off3 d (BitVec.ofNat 32 s.val)

/-- Where in the result the block a lane finishes by its own additions goes. -/
def outOwn (l : Fin 8) (d : Dev nD) : Fin 2 → ℕ :=
  match l with
  | 0 => k0_off4 d | 1 => k0_off5 d 7#32 | 2 => k0_off6 d | 3 => k0_off7 d 7#32
  | 4 => k0_off8 d | 5 => k0_off9 d 7#32 | 6 => k0_off10 d | 7 => k0_off11 d 7#32

/-- Where the `t`-th finished block that arrives at a lane goes. -/
def outGot (l : Fin 8) (d : Dev nD) (t : ℕ) : Fin 2 → ℕ :=
  match l with
  | 0 => k0_off12 d (BitVec.ofNat 32 t) | 1 => k0_off5 d (BitVec.ofNat 32 t)
  | 2 => k0_off13 d (BitVec.ofNat 32 t) | 3 => k0_off7 d (BitVec.ofNat 32 t)
  | 4 => k0_off14 d (BitVec.ofNat 32 t) | 5 => k0_off9 d (BitVec.ofNat 32 t)
  | 6 => k0_off15 d (BitVec.ofNat 32 t) | 7 => k0_off11 d (BitVec.ofNat 32 t)

/-- Where a lane's `n`-th finished block goes: its own one first. -/
def outOff (l : Fin 8) (d : Dev nD) (n : Fin 8) : Fin 2 → ℕ :=
  match n.val with
  | 0 => outOwn l d
  | t + 1 => outGot l d t

theorem rsOff_inb (l : Fin 8) (d : Dev nD) (s : Fin 7) : ∀ a, rsOff l d s a + S512x512.size a ≤ S4096x512.size a := by
  unfold rsOff; split
  · exact k0_off2_inb d s
  · exact k0_off3_inb d s

theorem outOwn_inb (l : Fin 8) (d : Dev nD) : ∀ a, outOwn l d a + S512x1024.size a ≤ S4096x8192.size a :=
  match l with
  | 0 => k0_off4_inb d | 1 => k0_off5_inb d 7 | 2 => k0_off6_inb d | 3 => k0_off7_inb d 7
  | 4 => k0_off8_inb d | 5 => k0_off9_inb d 7 | 6 => k0_off10_inb d | 7 => k0_off11_inb d 7

theorem outGot_inb (l : Fin 8) (d : Dev nD) (t : ℕ) (h : t < 7) :
    ∀ a, outGot l d t a + S512x1024.size a ≤ S4096x8192.size a :=
  match l with
  | 0 => k0_off12_inb d ⟨t, h⟩ | 1 => k0_off5_inb d ⟨t, by omega⟩
  | 2 => k0_off13_inb d ⟨t, h⟩ | 3 => k0_off7_inb d ⟨t, by omega⟩
  | 4 => k0_off14_inb d ⟨t, h⟩ | 5 => k0_off9_inb d ⟨t, by omega⟩
  | 6 => k0_off15_inb d ⟨t, h⟩ | 7 => k0_off11_inb d ⟨t, by omega⟩

theorem outOff_inb (l : Fin 8) (d : Dev nD) (n : Fin 8) :
    ∀ a, outOff l d n a + S512x1024.size a ≤ S4096x8192.size a :=
  match n with
  | ⟨0, _⟩ => outOwn_inb l d
  | ⟨t + 1, h⟩ => outGot_inb l d t (by omega)

theorem slot_inb (p : Fin 2) : ∀ a, (![p.val, 0, 0] : Fin 3 → ℕ) a + S1x512x1024.size a ≤ S2x512x1024.size a := by
  fin_cases p
  · exact inb_S2x512x1024_S1x512x1024_0_0_0
  · exact inb_S2x512x1024_S1x512x1024_1_0_0

theorem base_inb (l : Fin 8) : ∀ a, (![0, base l] : Fin 2 → ℕ) a + S512x1024.size a ≤ S512x8192.size a := by
  fin_cases l <;> decide

/-- One slot of a landing buffer, as loads and stores address it. -/
abbrev slotR (p : Fin 2) : Rect S2x512x1024 := Rect.unit (s := S2x512x1024) ![p.val, 0, 0] S1x512x1024.size (slot_inb p)
/-- The whole of a partial product's buffer. -/
abbrev pcR : Rect S512x1024 := Rect.unit (s := S512x1024) ![0, 0] S512x1024.size inb_S512x1024_S512x1024_0_0
/-- A lane's columns of the right operand. -/
abbrev wR (l : Fin 8) : Rect S512x8192 := Rect.unit (s := S512x8192) ![0, base l] S512x1024.size (base_inb l)
/-- A step's rows of the left operand, and a device's own. -/
abbrev xR (l : Fin 8) (d : Dev nD) (s : Fin 7) : Rect S4096x512 := Rect.unit (s := S4096x512) (rsOff l d s) S512x512.size (rsOff_inb l d s)
abbrev xR0 (d : Dev nD) : Rect S4096x512 := Rect.unit (s := S4096x512) (k0_off1 d) S512x512.size (k0_off1_inb d)

/-- One slot of a landing buffer, as transfers address it. -/
abbrev slotH (l : Fin 8) (p : Fin 2) : Memref sig .tc .vmem S512x1024 .f32 :=
  ((slotM l).slice (slotR p) (fun _ => rfl)).squeeze S512x1024 squeezes_S1x512x1024_S512x1024

/-- A lane's `n`-th block of the result. -/
abbrev outH (l : Fin 8) (d : Dev nD) (n : Fin 8) : Memref sig .tc .hbm S512x1024 .f32 :=
  (Memref.whole main_v1).slice (Rect.unit (s := S4096x8192) (outOff l d n) S512x1024.size (outOff_inb l d n)) (fun _ => rfl)

/-! ## What the lanes compute -/

/-- The scaled partial product of a block of rows and a block of columns. -/
def part (a : F .f32) (x : Vec F S512x512 .i8) (w : Vec F S512x1024 .i8) : FVec F S512x1024 .f32 :=
  mulf (sitofp .f32 (matmulI8 IntMxuNumerics.v7x dot_S512x512_S512x1024_S512x1024_1_0_0_1_n_n
    (shapeCast S512x512 x shapeCasts_S512x512_S512x512 : IVec S512x512 8)
    (shapeCast S512x1024 w shapeCasts_S512x1024_S512x1024 : IVec S512x1024 8)
    (constantI S512x1024 32 0#32))) (broadcast S512x1024 a)

/-- The sum of what arrived and the partial product waiting for it. -/
def accV (y : Vec F S1x512x1024 .f32) (p : Vec F S512x1024 .f32) : FVec F S1x512x1024 .f32 :=
  shapeCast S1x512x1024 (addf (shapeCast S512x1024 y shapeCasts_S1x512x1024_S512x1024 : FVec F S512x1024 .f32) p)
    shapeCasts_S512x1024_S1x512x1024

/-! ## The effects of a lane at a step -/

/-- Wait for what arrives before step `s`. -/
def recvWait (l : Fin 8) (s : ℕ) (k : Pr F) : Pr F :=
  .op (.waitDma2 (recvS l) (slotH l (par s)) (slotH l (par (s + 1))) ((View.wordExact_bits rfl).reshape _ _)
    ((View.wordExact_bits rfl).reshape _ _)) fun _ => k

/-- Wait for the departure of step `s - 1` to have left. -/
def sendWait (l : Fin 8) (s : ℕ) (k : Pr F) : Pr F :=
  .op (.waitDma2 (sendS l) (slotH l (par (s + 1))) (slotH l (par s)) ((View.wordExact_bits rfl).reshape _ _)
    ((View.wordExact_bits rfl).reshape _ _)) fun _ => k

/-- Add the waiting partial product to what arrived. -/
def accum (l : Fin 8) (s : ℕ) (k : Pr F) : Pr F :=
  .op (.load (slotM l) (slotR (par (s + 1))).toLoadRect (View.loadsAt_vmem h_S1x512x1024)) fun y =>
  .op (.load (pcM l) pcR.toLoadRect (View.loadsAt_vmem h_S512x1024)) fun p =>
  .op (.load (slotM l) (slotR (par (s + 1))).toLoadRect (View.loadsAt_vmem h_S1x512x1024)) fun _ =>
  .op (.store (slotM l) (slotR (par (s + 1))) (accV y p) Finset.univ (View.stores_vmem_bits_univ h_S1x512x1024 rfl) (.inl rfl)) fun _ => k

/-- Start the copy of the finished block into the result. -/
def copyOut (l : Fin 8) (s : ℕ) (d : Dev nD) (k : Pr F) : Pr F :=
  .op (.enqueueDma (slotH l (par (s + 1))) (.here (outH l d ⟨(s - 7) % 8, Nat.mod_lt _ (by decide)⟩)) (.dma (copyS l (par (s + 1))))
    ((View.wordExact_bits rfl).reshape _ _) (View.wordExact_bits rfl) ⟨Or.inl rfl, trivial⟩) fun _ => k

/-- Wait for the copy started a step before. -/
def pendWait (l : Fin 8) (s : ℕ) (d : Dev nD) (k : Pr F) : Pr F :=
  .op (.waitDma2 (copyS l (par s)) (slotH l (par s)) (outH l d ⟨(s - 8) % 8, Nat.mod_lt _ (by decide)⟩)
    ((View.wordExact_bits rfl).reshape _ _) (View.wordExact_bits rfl)) fun _ => k

/-- Tell the sender the slot is free, and wait to be told the same. -/
def credit (l : Fin 8) (d : Dev nD) (k : Pr F) : Pr F :=
  .op (.semSignal (up l d, .tc) (credS l) 1) fun _ => .op (.semWait (credS l) 1) fun _ => k

/-- Start the departure of step `s`. -/
def send (l : Fin 8) (s : ℕ) (d : Dev nD) (k : Pr F) : Pr F :=
  .op (.enqueueDma (slotH l (par (s + 1))) (.remote (Dev.tc (dn l d)) (slotH l (par s)) (.dma (sendS l))) (.dma (recvS l))
    ((View.wordExact_bits rfl).reshape _ _) ((View.wordExact_bits rfl).reshape _ _) ⟨⟨rfl, Or.inl rfl⟩, trivial⟩) fun _ => k

/-- A lane at a step. -/
def laneStep (d : Dev nD) (s : ℕ) (l : Fin 8) (k : Pr F) : Pr F :=
  if s = 0 then send l s d k
  else recvWait l s <|
    if s < 7 then accum l s <| sendWait l s <| credit l d <| send l s d k
    else if s = 7 then accum l s <| copyOut l s d <| sendWait l s <| credit l d <| send l s d k
    else copyOut l s d <| sendWait l s <| pendWait l s d <|
      if s < 14 then credit l d <| send l s d k else k

/-- The lanes, in the order a step runs them. -/
def lanes : List (Fin 8) := [0, 1, 2, 3, 4, 5, 6, 7]

section Args

variable (xM : Memref sig .tc .vmem S4096x512 .i8) (wM : Memref sig .tc .vmem S512x8192 .i8)
  (sxM swM : Memref sig .tc .smem S1 .f32)

/-- A lane's partial product for the step after, computed while the step's transfers run. -/
def prep (a : F .f32) (d : Dev nD) (s : ℕ) (l : Fin 8) (k : Pr F) : Pr F :=
  .op (.load xM (xR l d ⟨s % 7, Nat.mod_lt _ (by decide)⟩).toLoadRect (View.loadsAt_vmem h_S512x512)) fun x =>
  .op (.load wM (wR l).toLoadRect (View.loadsAt_vmem h_S512x1024)) fun w =>
  .op (.load (pcM l) pcR.toLoadRect (View.loadsAt_vmem h_S512x1024)) fun _ =>
  .op (.store (pcM l) pcR (shapeCast S512x1024 (part a x w) shapeCasts_S512x1024_S512x1024) Finset.univ (View.stores_vmem_bits_univ h_S512x1024 rfl) (.inl rfl)) fun _ => k

/-- A lane's first partial product, into the slot it is sent from. -/
def first (a : F .f32) (d : Dev nD) (l : Fin 8) (k : Pr F) : Pr F :=
  .op (.load xM (xR0 d).toLoadRect (View.loadsAt_vmem h_S512x512)) fun x =>
  .op (.load wM (wR l).toLoadRect (View.loadsAt_vmem h_S512x1024)) fun w =>
  .op (.load (slotM l) (slotR 1).toLoadRect (View.loadsAt_vmem h_S1x512x1024)) fun _ =>
  .op (.store (slotM l) (slotR 1) (shapeCast S1x512x1024 (part a x w) shapeCasts_S512x1024_S1x512x1024) Finset.univ (View.stores_vmem_bits_univ h_S1x512x1024 rfl) (.inl rfl)) fun _ => k

/-- A step: every lane's transfers, then (while there is something to add) every lane's partial product. -/
def step (a : F .f32) (d : Dev nD) (s : ℕ) (k : Pr F) : Pr F :=
  lanes.foldr (laneStep d s) (if s < 7 then lanes.foldr (prep xM wM a d s) k else k)

/-- `n` steps from step `s` on. -/
def steps (a : F .f32) (d : Dev nD) : ℕ → ℕ → Pr F → Pr F
  | 0, _, k => k
  | n + 1, s, k => step xM wM a d s (steps a d n (s + 1) k)

/-- The body. -/
def clean : Pr F :=
  .op .deviceId fun d =>
  .op (.semSignal (lft d, .tc) barS 1) fun _ =>
  .op (.semSignal (rgt d, .tc) barS 1) fun _ =>
  .op (.semWait barS 2) fun _ =>
  .op (.load sxM (Rect.unit (s := S1) ![0] S1.size inb_S1_S1_0).toLoadRect (View.loadsAt_rect (View.loads_smem_one rfl numel1_S1))) fun sx =>
  .op (.load swM (Rect.unit (s := S1) ![0] S1.size inb_S1_S1_0).toLoadRect (View.loadsAt_rect (View.loads_smem_one rfl numel1_S1))) fun sw =>
  lanes.foldr (first xM wM (Scalar.mulf (sx (Shape.Idx.first (numel1_S1.symm ▸ Nat.one_pos))) (sw (Shape.Idx.first (numel1_S1.symm ▸ Nat.one_pos)))) d) <|
  steps xM wM (Scalar.mulf (sx (Shape.Idx.first (numel1_S1.symm ▸ Nat.one_pos))) (sw (Shape.Idx.first (numel1_S1.symm ▸ Nat.one_pos)))) d 15 0 <|
  lanes.foldr (fun l k => pendWait l 15 d k) (.ret ⟨⟩)

set_option maxRecDepth 65536 in
/-- The printed body is `clean`. -/
theorem body_eq_clean (hx : xM.IsWhole) (hw : wM.IsWhole) (hsx : sxM.IsWhole) (hsw : swM.IsWhole) :
    cc0_body (F := F) xM hx wM hw sxM hsx swM hsw (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18
      = clean xM wM sxM swM := by
  chain_rfl

end Args

end Cert.KernelIdeal.Ring

end
-- ==== Proof.Protocol.lean ====
/-
Who tells whom what on the ring.

Every device has forty-one semaphores that the body uses: the barrier's, and for each lane one its
departures complete on, one its arrivals complete on, one its credit comes on, and one for the copies
out of each slot. This file says, for each semaphore and each round of it, how much arrives and what
comes with it (`ringRd`); what each device owes the others before each step (`debt`); and in which order
the waits may be taken (`lv`).
-/
module

public import proofs.«01_k».proof.Proof.Clean
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours -/

theorem lft_rgt (c : Dev nD) : lft (rgt c) = c := by revert c; decide
theorem rgt_lft (c : Dev nD) : rgt (lft c) = c := by revert c; decide
theorem up_dn (l : Fin 8) (c : Dev nD) : up l (dn l c) = c := by
  unfold up dn; split
  · exact lft_rgt c
  · exact rgt_lft c
theorem dn_up (l : Fin 8) (c : Dev nD) : dn l (up l c) = c := by
  unfold up dn; split
  · exact rgt_lft c
  · exact lft_rgt c

theorem par_add_two (s : ℕ) : par (s + 2) = par s := Fin.ext (Nat.add_mod_right s 2)

/-! ## The semaphores -/

/-- A semaphore of a device: the barrier's, or one of five of a lane's. -/
abbrev Ck := Unit ⊕ (Fin 5 × Fin 8)
abbrev barC : Ck := .inl ()
abbrev sendC (l : Fin 8) : Ck := .inr (0, l)
abbrev recvC (l : Fin 8) : Ck := .inr (1, l)
abbrev credC (l : Fin 8) : Ck := .inr (2, l)
abbrev copyC (l : Fin 8) (p : Fin 2) : Ck := .inr (⟨3 + p.val, by omega⟩, l)

/-- Where a lane's own semaphore is. -/
def osem (x : Fin 5 × Fin 8) : SemLoc sig :=
  match x.1 with
  | 0 => .dma (sendS x.2) | 1 => .dma (recvS x.2) | 2 => .reg (credS x.2)
  | 3 => .dma (copyS x.2 0) | 4 => .dma (copyS x.2 1)

/-- Where a semaphore of a device is. -/
def csem : Ck → SemLoc sig
  | .inl _ => .reg barS
  | .inr x => osem x

/-- Which semaphore of a device a place is; the staging semaphores are none. -/
def kindOf : SemLoc sig → Option Ck
  | .reg q => if h : q.val < 8 then some (credC ⟨q.val, h⟩) else some barC
  | .dma q =>
    if q.val < 4 then none
    else if h : q.val < 20 then some (.inr (⟨(q.val - 4) % 2, by omega⟩, ⟨(q.val - 4) / 2, by omega⟩))
    else some (.inr (⟨3 + (q.val - 20) % 2, by omega⟩, ⟨(q.val - 20) / 2, by have h : q.val < 36 := q.isLt; omega⟩))

theorem kindOf_csem (k : Ck) : kindOf (csem k) = some k := by
  rcases k with _ | ⟨k, l⟩
  · rfl
  · fin_cases k <;> fin_cases l <;> rfl

theorem csem_injective : Function.Injective csem := fun a b h => by
  have := congrArg kindOf h
  rw [kindOf_csem, kindOf_csem] at this
  exact Option.some.inj this

/-- A semaphore of a device. -/
def cell (c : Dev nD) (k : Ck) : GSem nD τ sig := ((c : Thread nD τ), csem k)

theorem cell_inj {c c' : Dev nD} {k k' : Ck} (h : cell c k = cell c' k') : c = c' ∧ k = k' :=
  ⟨Fin.ext (congrArg (fun g : GSem nD τ sig => g.1.1.val) h), csem_injective (congrArg Prod.snd h)⟩

/-! ## The resources -/

abbrev UB : Type := URounds (GSem nD τ sig) Bool
abbrev UU : Type := UR sig nD τ × UB

/-- Propositions about the machine running this program. -/
abbrev 𝕄 (F : FTy → Type) := MT nD τ sig ℕ (Elt F) ℕ UU ℕ

abbrev EP : Emb (UR sig nD τ) (𝕄 F) := embL
abbrev ER : Emb UB (𝕄 F) := embR

/-! ## What the devices hold -/

/-- The arguments, device by device. -/
structure Ins (F : FTy → Type) where
  x : Dev nD → Vec F S4096x512 .i8
  w : Dev nD → Vec F S512x8192 .i8
  sx : Dev nD → Vec F S1 .f32
  sw : Dev nD → Vec F S1 .f32

/-- The product of the two scales, as a device computes it. -/
def Ins.scale (I : Ins F) (d : Dev nD) : F .f32 :=
  Scalar.mulf (I.sx d (Shape.Idx.first (numel1_S1.symm ▸ Nat.one_pos))) (I.sw d (Shape.Idx.first (numel1_S1.symm ▸ Nat.one_pos)))

/-- The partial product a lane starts from. -/
def pt0 (I : Ins F) (l : Fin 8) (d : Dev nD) : FVec F S512x1024 .f32 :=
  part (I.scale d) (fun j => I.x d ((xR0 d).emb j)) (fun j => I.w d ((wR l).emb j))

/-- The partial product a lane adds at the step after `s`. -/
def pt (I : Ins F) (l : Fin 8) (s : ℕ) (d : Dev nD) : FVec F S512x1024 .f32 :=
  part (I.scale d) (fun j => I.x d ((xR l d ⟨s % 7, Nat.mod_lt _ (by decide)⟩).emb j)) (fun j => I.w d ((wR l).emb j))

/-- What a lane of device `d` holds, ready to go on, at step `s`. -/
def val (I : Ins F) (l : Fin 8) : ℕ → Dev nD → FVec F S512x1024 .f32
  | 0, d => pt0 I l d
  | s + 1, d => if s < 7 then addf (val I l s (up l d)) (pt I l s d) else val I l s (up l d)

/-- A finished block's number, kept in range. -/
def oi (n : ℕ) : Fin 8 := ⟨n % 8, Nat.mod_lt _ (by decide)⟩

/-! ## The schedule -/

/-- The units one transfer of a block counts. -/
def N : ℕ := (slotH 0 0).view.dmaCredit
theorem N_pos : 0 < N := View.dmaCredit_pos _ (by decide)

/-- How many rounds a semaphore has. -/
def rounds : Ck → ℕ
  | .inl _ => 1
  | .inr (k, _) => match k with | 0 => 14 | 1 => 14 | 2 => 13 | 3 => 4 | 4 => 4

/-- Who contributes to a round: both neighbours to the barrier, one payer to every other. -/
def names : Ck → Finset Bool
  | .inl _ => Finset.univ
  | .inr _ => {false}

/-- How much each contributes. -/
def amt : Ck → ℕ
  | .inl _ => 1
  | .inr (k, _) => if k = 2 then 1 else N

/-- A landing slot, whatever it holds. -/
def anySlot (c : Dev nD) (l : Fin 8) (p : Fin 2) : sProp (𝕄 F) :=
  iprop(∃ X, owns (c : Thread nD τ) (slotH l p) fullShare X)

/-- What a round of a semaphore of device `c` hands `c`.
    Barrier: the neighbour's first landing slot of every lane that sends to it. Departures: the share of the
    slot that was lent. Arrivals: the slot holding what the sender held, and that the sender is ready for its
    next credit. Credit: the receiver's slot, free. Copies: the block of the result, written, and the share
    of the slot that was lent. -/
def pay (I : Ins F) : Ck → Dev nD → ℕ → Bool → sProp (𝕄 F)
  | .inl _, c, _, d => bigSep (Finset.univ.filter fun l : Fin 8 => decide (l.val % 2 = 0) = d) fun l =>
      iprop(anySlot (dn l c) l 0 ∗ reached ER (cell (dn l c) (recvC l)) 0)
  | .inr (k, l), c, r, _ =>
    match k with
    | 0 => owns (c : Thread nD τ) (slotH l (par (r + 1))) fullShare.left (val I l r c)
    | 1 => iprop(owns (c : Thread nD τ) (slotH l (par r)) fullShare (val I l r (up l c)) ∗ reached ER (cell (up l c) (credC l)) r)
    | 2 => iprop(anySlot (dn l c) l (par (r + 1)) ∗ reached ER (cell (dn l c) (recvC l)) (r + 1))
    | 3 => iprop(owns (c : Thread nD τ) (outH l c (oi (2 * r))) fullShare (val I l (7 + 2 * r) c) ∗ owns (c : Thread nD τ) (slotH l 0) fullShare.right (val I l (7 + 2 * r) c))
    | 4 => iprop(owns (c : Thread nD τ) (outH l c (oi (2 * r + 1))) fullShare (val I l (7 + (2 * r + 1)) c) ∗ owns (c : Thread nD τ) (slotH l 1) fullShare.right (val I l (7 + (2 * r + 1)) c))

instance anySlot_storable (c : Dev nD) (l : Fin 8) (p : Fin 2) : BI.Storable (upEmb : UEmb _ (𝕄 F)) (anySlot (F := F) c l p) := by
  unfold anySlot; infer_instance

instance pay_storable (I : Ins F) (k : Ck) (c : Dev nD) (r : ℕ) (d : Bool) : BI.Storable (upEmb : UEmb _ (𝕄 F)) (pay I k c r d) := by
  rcases k with _ | ⟨k, l⟩
  · unfold pay; infer_instance
  · unfold pay; fin_cases k <;> infer_instance

/-- The schedule of every semaphore. -/
def ringRd (I : Ins F) : Rounds.Schedule (GSem nD τ sig) Bool (𝕄 F) where
  duties g r := match kindOf g.2 with
    | some k => if g.1.2 = .tc ∧ r < rounds k then names k else ∅
    | none => ∅
  unitless _ := False
  amount g _ _ := match kindOf g.2 with
    | some k => amt k
    | none => 1
  payload g r d := match kindOf g.2 with
    | some k => pay I k g.1.1 r d
    | none => iprop(emp)
  amount_pos g _ _ _ := by
    show 0 < match kindOf g.2 with | some k => amt k | none => 1
    split
    · rename_i k _
      rcases k with _ | ⟨k, l⟩
      · exact Nat.one_pos
      · unfold amt; dsimp only; split
        · exact Nat.one_pos
        · exact N_pos
    · exact Nat.one_pos

instance ringRd_payload_storable (I : Ins F) (g : GSem nD τ sig) (r : ℕ) (d : Bool) :
    BI.Storable (upEmb : UEmb _ (𝕄 F)) ((ringRd I).payload g r d) := by
  show BI.Storable upEmb (match kindOf g.2 with | some k => pay I k g.1.1 r d | none => iprop(emp))
  split <;> infer_instance

section Sched

variable (I : Ins F) (c : Dev nD) (k : Ck) (r : ℕ)

theorem duties_cell (h : r < rounds k) : (ringRd I).duties (cell c k) r = names k := by
  show (match kindOf (csem k) with | some k => if (c : Thread nD τ).2 = Proc.tc ∧ r < rounds k then names k else ∅ | none => ∅) = _
  rw [kindOf_csem]; exact if_pos ⟨rfl, h⟩

theorem duties_later (h : rounds k ≤ r) : (ringRd I).duties (cell c k) r = ∅ := by
  show (match kindOf (csem k) with | some k => if (c : Thread nD τ).2 = Proc.tc ∧ r < rounds k then names k else ∅ | none => ∅) = _
  rw [kindOf_csem]; exact if_neg fun h' => by omega

theorem amount_cell (d : Bool) : (ringRd I).amount (cell c k) r d = amt k := by
  show (match kindOf (csem k) with | some k => amt k | none => 1) = _
  rw [kindOf_csem]

theorem payload_cell (d : Bool) : (ringRd I).payload (cell c k) r d = pay I k c r d := by
  show (match kindOf (csem k) with | some k => pay I k c r d | none => iprop(emp)) = _
  rw [kindOf_csem]

theorem expect_lane (x : Fin 5 × Fin 8) (h : r < rounds (.inr x)) : (ringRd I).expect (cell c (.inr x)) r = amt (.inr x) := by
  unfold Schedule.expect Schedule.amountOf
  rw [duties_cell I c _ r h]
  show Finset.sum {false} _ = _
  rw [Finset.sum_singleton, amount_cell]

theorem expect_bar : (ringRd I).expect (cell c barC) 0 = 2 := by
  unfold Schedule.expect Schedule.amountOf
  rw [duties_cell I c _ 0 (by decide)]
  show Finset.sum Finset.univ _ = _
  rw [Finset.sum_congr rfl fun d _ => amount_cell I c barC 0 d, Finset.sum_const, Finset.card_univ, Fintype.card_bool]; rfl

theorem rest_lane (x : Fin 5 × Fin 8) (h : r < rounds (.inr x)) :
    bigSep ((ringRd I).duties (cell c (.inr x)) r \ ∅) (fun d => (ringRd I).payload (cell c (.inr x)) r d) = pay I (.inr x) c r false := by
  rw [Finset.sdiff_empty, duties_cell I c _ r h]
  show bigSep {false} _ = _
  rw [bigSep_singleton, payload_cell]

theorem rest_bar :
    bigSep ((ringRd I).duties (cell c barC) 0 \ ∅) (fun d => (ringRd I).payload (cell c barC) 0 d)
      = iprop(pay I barC c 0 false ∗ pay I barC c 0 true) := by
  rw [Finset.sdiff_empty, duties_cell I c _ 0 (by decide)]
  show bigSep Finset.univ _ = _
  rw [bigSep_univ_eq_bigSepL [false, true] (by decide) (by decide), bigSepL_cons_cons, bigSepL_singleton, payload_cell, payload_cell]
  rfl

end Sched

/-! ## What is owed, and the order of the waits -/

/-- A lane's debts: arrivals at the next device from round `a` on, credit to the one before from round `b` on. -/
def debt' (l : Fin 8) (a b : ℕ) (c : Dev nD) : CellTallies nD τ sig ℕ :=
  (∑ r ∈ Finset.Ico a 14, tallyAt (cell (dn l c) (recvC l)) r N) + ∑ r ∈ Finset.Ico b 13, tallyAt (cell (up l c) (credC l)) r 1

/-- A lane's debts before step `s`. -/
abbrev debt (l : Fin 8) (s : ℕ) (c : Dev nD) : CellTallies nD τ sig ℕ := debt' l s (s - 1) c

theorem Ico_head {a b : ℕ} (h : a < b) : Finset.Ico a b = insert a (Finset.Ico (a + 1) b) := by
  ext i; rw [Finset.mem_insert, Finset.mem_Ico, Finset.mem_Ico]; omega
theorem head_notMem {a b : ℕ} : a ∉ Finset.Ico (a + 1) b := fun h => by
  have := (Finset.mem_Ico.mp h).1; omega

theorem debt'_recv (l : Fin 8) {a b : ℕ} (c : Dev nD) (h : a < 14) :
    debt' l a b c = debt' l (a + 1) b c + tallyAt (cell (dn l c) (recvC l)) a N := by
  unfold debt'; rw [Ico_head h, Finset.sum_insert head_notMem, add_comm (tallyAt _ _ _), add_right_comm]

theorem debt'_cred (l : Fin 8) {a b : ℕ} (c : Dev nD) (h : b < 13) :
    debt' l a b c = debt' l a (b + 1) c + tallyAt (cell (up l c) (credC l)) b 1 := by
  unfold debt'; rw [Ico_head h, Finset.sum_insert head_notMem, add_comm (tallyAt _ _ 1), add_assoc]

/-- The place of a wait in the order: barrier, then step by step and lane by lane, credit before arrivals. -/
def lv (g : GSem nD τ sig) (u : ℕ) : ℕ :=
  match kindOf g.2 with
  | some (.inl _) => 1
  | some (.inr (k, l)) => if k = 1 then 3 + 2 * (8 * u + l.val) else if k = 2 then 2 + 2 * (8 * (u + 1) + l.val) else 0
  | none => 0

/-- The rounds a place may be waited at. -/
def L (g : GSem nD τ sig) : Finset ℕ := if g.1.2 = .tc then Finset.range 14 else ∅

theorem L_of_ne (g : GSem nD τ sig) (h : g.1.2 ≠ .tc) : L g = ∅ := if_neg h

theorem lv_cell (c : Dev nD) (k : Ck) (u : ℕ) : lv (cell c k) u = match k with
    | .inl _ => 1
    | .inr (k, l) => if k = 1 then 3 + 2 * (8 * u + l.val) else if k = 2 then 2 + 2 * (8 * (u + 1) + l.val) else 0 := by
  show (match kindOf (csem k) with
    | some (.inl _) => 1
    | some (.inr (k, l)) => if k = 1 then 3 + 2 * (8 * u + l.val) else if k = 2 then 2 + 2 * (8 * (u + 1) + l.val) else 0
    | none => 0) = _
  rw [kindOf_csem]
  rcases k with _ | ⟨_, _⟩ <;> rfl

/-- Everything owed is waited for above `T`. -/
def Above (T : ℕ) (O : CellTallies nD τ sig ℕ) : Prop := ∀ g u, 0 < O g u → T < lv g u ∧ u ∈ L g

theorem Above.mono {T T' : ℕ} {O : CellTallies nD τ sig ℕ} (h : Above T O) (h' : T' ≤ T) : Above T' O :=
  fun g u hg => ⟨lt_of_le_of_lt h' (h g u hg).1, (h g u hg).2⟩

theorem Above.zero (T : ℕ) : Above T 0 := fun _ _ h => absurd h (Nat.lt_irrefl 0)

theorem Above.add {T : ℕ} {O O' : CellTallies nD τ sig ℕ} (h : Above T O) (h' : Above T O') : Above T (O + O') := fun g u hg => by
  rw [Pi.add_apply, Finsupp.add_apply] at hg
  rcases Nat.eq_zero_or_pos (O g u) with h0 | h0
  · exact h' g u (by omega)
  · exact h g u h0

theorem Above.sum {T : ℕ} {ι : Type} (S : Finset ι) (f : ι → CellTallies nD τ sig ℕ) (h : ∀ i ∈ S, Above T (f i)) :
    Above T (∑ i ∈ S, f i) := by
  classical
  induction S using Finset.induction_on with
  | empty => rw [Finset.sum_empty]; exact Above.zero T
  | insert i S hi ih =>
    rw [Finset.sum_insert hi]
    exact (h i (Finset.mem_insert_self _ _)).add (ih fun j hj => h j (Finset.mem_insert_of_mem hj))

theorem Above.tally {T : ℕ} (c : Dev nD) (k : Ck) (u n : ℕ) (h : T < lv (cell c k) u) (hu : u < 14) : Above T (tallyAt (cell c k) u n) := fun g v hg => by
  rw [tallyAt_apply] at hg
  by_cases hh : g = cell c k ∧ v = u
  · obtain ⟨rfl, rfl⟩ := hh
    exact ⟨h, by unfold L; rw [if_pos (show (cell c k).1.2 = Proc.tc from rfl)]; exact Finset.mem_range.mpr hu⟩
  · rw [if_neg hh] at hg; exact absurd hg (Nat.lt_irrefl 0)

theorem debt'_above (l : Fin 8) (a b : ℕ) (c : Dev nD) (T : ℕ) (ha : T < 3 + 2 * (8 * a + l.val)) (hb : T < 2 + 2 * (8 * (b + 1) + l.val)) :
    Above T (debt' l a b c) := by
  refine (Above.sum _ _ fun r hr => ?_).add (Above.sum _ _ fun r hr => ?_)
  · have := Finset.mem_Ico.mp hr
    refine Above.tally _ _ _ _ ?_ this.2
    rw [lv_cell]; dsimp only; rw [if_pos rfl]; omega
  · have := Finset.mem_Ico.mp hr
    refine Above.tally _ _ _ _ ?_ (by omega)
    rw [lv_cell]; dsimp only; rw [if_neg (by decide), if_pos rfl]; omega

/-- A wait may be taken when all that is owed is above it. -/
theorem mayWait (c : Dev nD) (k : Ck) (u T : ℕ) {O : CellTallies nD τ sig ℕ} (hu : u < 14) (hk : lv (cell c k) u ≤ T) (hO : Above T O) :
    (levAts L lv : sProp (𝕄 F)) ⊢ MayWait (c : Thread nD τ) (csem k) u O :=
  MayOwe.of_cut (L := L) (lev := lv) T
    (fun p hp => by
      rw [Finset.mem_singleton.mp hp]; show u ∈ L (cell c k); unfold L; rw [if_pos (show (cell c k).1.2 = Proc.tc from rfl)]; exact Finset.mem_range.mpr hu)
    (fun g u hg => (hO g u hg).2)
    (fun p hp => by rw [Finset.mem_singleton.mp hp]; exact hk)
    (fun g u hg => (hO g u hg).1)

end Cert.KernelIdeal.Ring

end
-- ==== Proof.Ops.lean ====
/-
Loads and stores of the body, told by what the buffers hold.
-/
module

public import proofs.«01_k».proof.Proof.Protocol
public import Idealize.ShloMosaic.Lib.Pipeline.Value

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The program `p` of device `c` runs without fault and ends in `Q`. -/
abbrev WP (c : Dev nD) (p : Pr F) (Q : PUnit → sProp (𝕄 F)) : sProp (𝕄 F) :=
  wp frame (wpE (defs₀ (F := F)) 𝒱₀ (c : Thread nD τ) none) Set.univ p Q

variable (c : Dev nD) {Q : PUnit → sProp (𝕄 F)}

/-- A load of a rectangle of a buffer held at `X` reads `X` there. -/
theorem load_owns {cs : CoreSpace} {s : Shape} {e : EltTy} (m : Memref sig .tc cs s e) (r : Rect s) (q : PosShare TreeShare)
    (X : s.Idx → Elt F e) {hl : m.view.LoadsAt r.toLoadRect} {k : (r.shape.Idx → Elt F e) → Pr F} :
    (owns (c : Thread nD τ) m q X : sProp (𝕄 F))
      ⊢ iprop((owns (c : Thread nD τ) m q X -∗ WP c (k fun j => X (r.emb j)) Q) -∗ WP c (.op (.load m r.toLoadRect hl) k) Q) := by
  unfold owns
  iintro ⟨%f, %hf, H⟩ Hk
  iapply (wp_load 𝒱₀ (c : Thread nD τ) none Set.univ (m := m) (r := r.toLoadRect) (m.view.setOn_subset_set _)) $$ H
  iintro H
  rw [show m.view.readAt (Elt F) r.toLoadRect f = fun j => X (r.emb j) from by subst hf; rfl]
  iapply Hk
  iexists f
  isplitr; · ipureintro; exact hf
  iexact H

/-- A load of a landing slot. -/
theorem load_slot (l : Fin 8) (p : Fin 2) (q : PosShare TreeShare) (X : FVec F S512x1024 .f32)
    {hl : (slotM l).view.LoadsAt (slotR p).toLoadRect} {k : Vec F S1x512x1024 .f32 → Pr F} :
    (owns (c : Thread nD τ) (slotH l p) q X : sProp (𝕄 F))
      ⊢ iprop((owns (c : Thread nD τ) (slotH l p) q X -∗ WP c (k (shapeCast S1x512x1024 X shapeCasts_S512x1024_S1x512x1024)) Q)
          -∗ WP c (.op (.load (slotM l) (slotR p).toLoadRect hl) k) Q) := by
  unfold owns
  iintro ⟨%f, %hf, H⟩ Hk
  iapply (wp_load 𝒱₀ (c : Thread nD τ) none Set.univ (m := slotM l) (r := (slotR p).toLoadRect) (S := (slotH l p).view.set)
    (show (slotM l).view.setOn (slotR p).set ⊆ (slotH l p).view.set from by
      rw [show (slotH l p).view.set = ((slotM l).view.slice (slotR p)).set from View.set_reshape _ _, View.set_slice]; exact subset_rfl)) $$ H
  iintro H
  rw [show (slotM l).view.readAt (Elt F) (slotR p).toLoadRect f = shapeCast S1x512x1024 X shapeCasts_S512x1024_S1x512x1024 from by
    subst hf
    exact (shapeCast_shapeCast ((slotM l).view.readAt (Elt F) (slotR p).toLoadRect f) shapeCasts_S1x512x1024_S512x1024 shapeCasts_S512x1024_S1x512x1024).symm]
  iapply Hk
  iexists f
  isplitr; · ipureintro; exact hf
  iexact H

/-- A store of a landing slot. -/
theorem store_slot (l : Fin 8) (p : Fin 2) (V : Vec F S1x512x1024 .f32)
    {hx : ((slotM l).access (slotR p)).Stores Finset.univ} {hm} {k : PUnit → Pr F} :
    (anySlot c l p : sProp (𝕄 F))
      ⊢ iprop((owns (c : Thread nD τ) (slotH l p) fullShare (shapeCast S512x1024 V shapeCasts_S1x512x1024_S512x1024 : FVec F S512x1024 .f32) -∗ WP c (k ⟨⟩) Q)
          -∗ WP c (.op (.store (slotM l) (slotR p) V Finset.univ hx hm) k) Q) := by
  unfold anySlot owns
  iintro ⟨%X, %f, -, H⟩ Hk
  iapply (wp_store 𝒱₀ (c : Thread nD τ) none Set.univ (m := slotM l) (r := slotR p) (Mk := Finset.univ) (S := (slotH l p).view.set)
    (show ((slotM l).view.slice (slotR p)).set ⊆ (slotH l p).view.set from by
      rw [show (slotH l p).view.set = ((slotM l).view.slice (slotR p)).set from View.set_reshape _ _])) $$ H
  iintro H
  iapply Hk
  iexists _
  isplitr
  · ipureintro
    exact congrArg (fun Y => shapeCast S512x1024 Y shapeCasts_S1x512x1024_S512x1024) (View.read_write_univ (v := (slotM l).view.slice (slotR p)) f V)
  iexact H

/-- A partial product's buffer, whatever it holds. -/
def anyPc (l : Fin 8) : sProp (𝕄 F) := iprop(∃ X, owns (c : Thread nD τ) (pcM l) fullShare X)

theorem pcR_emb (j : pcR.shape.Idx) : pcR.emb j = j := by
  refine funext fun a => Fin.ext ?_
  rw [Rect.emb_apply]
  show (![0, 0] : Fin 2 → ℕ) a + 1 * (j a).val = (j a).val
  rw [Nat.one_mul, show (![0, 0] : Fin 2 → ℕ) a = 0 from by fin_cases a <;> rfl, Nat.zero_add]

/-- A load of a partial product's buffer. -/
theorem load_pc (l : Fin 8) (X : FVec F S512x1024 .f32) {hl : (pcM l).view.LoadsAt pcR.toLoadRect} {k : Vec F S512x1024 .f32 → Pr F} :
    (owns (c : Thread nD τ) (pcM l) fullShare X : sProp (𝕄 F))
      ⊢ iprop((owns (c : Thread nD τ) (pcM l) fullShare X -∗ WP c (k X) Q) -∗ WP c (.op (.load (pcM l) pcR.toLoadRect hl) k) Q) := by
  have h : (fun j => X (pcR.emb j)) = X := funext fun j => by rw [pcR_emb]
  have := load_owns c (Q := Q) (pcM l) pcR fullShare X (hl := hl) (k := k)
  rw [h] at this
  exact this

/-- A store of a partial product's buffer. -/
theorem store_pc (l : Fin 8) (V : FVec F S512x1024 .f32) {hx : ((pcM l).access pcR).Stores Finset.univ} {hm} {k : PUnit → Pr F} :
    (anyPc c l : sProp (𝕄 F))
      ⊢ iprop((owns (c : Thread nD τ) (pcM l) fullShare V -∗ WP c (k ⟨⟩) Q)
          -∗ WP c (.op (.store (pcM l) pcR V Finset.univ hx hm) k) Q) := by
  unfold anyPc owns
  iintro ⟨%X, %f, -, H⟩ Hk
  iapply (wp_store 𝒱₀ (c : Thread nD τ) none Set.univ (m := pcM l) (r := pcR) (Mk := Finset.univ) (S := (pcM l).view.set)
    (View.set_slice_subset _ _)) $$ H
  iintro H
  iapply Hk
  iexists _
  isplitr
  · ipureintro
    refine funext fun j => ?_
    have := View.read_slice_write_emb (Val := Elt F) (v := (pcM l).view) pcR f V (x := j) (Finset.mem_univ j)
    rw [pcR_emb] at this
    exact this
  iexact H

end Cert.KernelIdeal.Ring

end
-- ==== Proof.Moves.lean ====
/-
The signals, waits and transfers of a lane, told by the schedule.
-/
module

public import proofs.«01_k».proof.Proof.Ops

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Ck → ℕ)

/-- What every step may use and none uses up: the semaphores' rules and the order of the waits. -/
def Ctx : sProp (𝕄 F) :=
  iprop((bigSep Finset.univ fun ck : Dev nD × Ck => cellInv ER (ringRd I) (K ck) (cell ck.1 ck.2)) ∗ levAts L lv)

instance Ctx_persistent : BI.Persistent (Ctx I K) := by unfold Ctx; infer_instance

theorem Ctx_inv (c : Dev nD) (k : Ck) : Ctx I K ⊢ cellInv ER (ringRd I) (K (c, k)) (cell c k) := by
  unfold Ctx
  iintro ⟨H, -⟩
  iapply (show _ ⊢ cellInv ER (ringRd I) (K (c, k)) (cell c k) from bigSep_elim (Φ := fun ck : Dev nD × Ck => cellInv ER (ringRd I) (K ck) (cell ck.1 ck.2)) (Finset.mem_univ (c, k)))
  iexact H

theorem Ctx_lev : Ctx I K ⊢ levAts L lv := by
  unfold Ctx
  iintro ⟨-, H⟩
  iexact H

/-- What device `c` owes, whatever it has waited for so far. -/
def Ow (c : Dev nD) (O : CellTallies nD τ sig ℕ) : sProp (𝕄 F) := iprop(∃ W, owes (c : Thread nD τ) O W)

variable (c : Dev nD) {Q : PUnit → sProp (𝕄 F)} {O R : CellTallies nD τ sig ℕ}

/-- A wait for a round of one of a lane's own semaphores brings what the round hands over. -/
theorem wait_lane (q : Ck) (n : ℕ) (hn : amt q = n) (hq : q ≠ barC) (r ι T : ℕ) (hr : r < rounds q) (hι : ι < 14) (hlv : lv (cell c q) ι ≤ T)
    (hO : Above T O) (w : TpuEff nD τ sig (Elt F) Λ₀ .tc PUnit) {k : PUnit → Pr F}
    (hw : ∀ Kt : PUnit → sProp (𝕄 F), wpE (defs₀ (F := F)) 𝒱₀ (c : Thread nD τ) none Set.univ w Kt = waitSpec (c : Thread nD τ) Set.univ (csem q) n Kt) :
    iprop(Ctx I K ∗ cred (tallyAt (cell c q) ι n) ∗ atPos ER (cell c q) r ∅ 0 ∗ Ow c O)
      ⊢ iprop(((atPos ER (cell c q) (r + 1) ∅ 0 ∗ reached ER (cell c q) (r + 1) ∗ pay I q c r false ∗ Ow c O) -∗ WP c (k ⟨⟩) Q)
          -∗ WP c (.op w k) Q) := by
  subst hn
  obtain ⟨x, rfl⟩ : ∃ x, q = .inr x := by
    rcases q with ⟨⟩ | x
    · exact absurd rfl hq
    · exact ⟨x, rfl⟩
  unfold Ow
  iintro ⟨#HC, Hcr, Hat, ⟨%W, HO⟩⟩ Hk
  iapply (Rounds.wp_wait_rest_token 𝒱₀ ER (ringRd I) (c : Thread nD τ) none (κ := K (c, .inr x)) hw (Set.mem_univ _) ι
      (O := O) (W := W) (R := r) (m := 0) (T := ∅) (by rw [Nat.zero_add]; exact (expect_lane I c r x hr).symm)) $$ [Hcr Hat HO]
  · isplitr; · iapply (Ctx_inv I K c (.inr x)); iexact HC
    isplitl [Hcr]; · iexact Hcr
    isplitl [HO]; · iexact HO
    isplitr
    · iapply (mayWait c (.inr x) ι T hι hlv hO); iapply (Ctx_lev I K); iexact HC
    iexact Hat
  iintro ⟨HO, Hat, Hr, Hpay⟩
  ihave Hp := (Entails.of_eq (show bigSep ((ringRd I).duties ((c : Thread nD τ), csem (.inr x)) r \ ∅)
    (fun d => (ringRd I).payload ((c : Thread nD τ), csem (.inr x)) r d) = pay I (.inr x) c r false from rest_lane I c r x hr)) $$ Hpay
  iapply Hk
  isplitl [Hat]; · iexact Hat
  isplitl [Hr]; · iexact Hr
  isplitl [Hp]; · iexact Hp
  iexists _; iexact HO

theorem slot_credit (l : Fin 8) (p : Fin 2) : (slotH l p).view.dmaCredit = N := rfl
theorem out_credit (l : Fin 8) (n : Fin 8) : (outH l c n).view.dmaCredit = N := rfl

/-- The arrivals' wait at step `r + 1`. -/
theorem recvWait_spec (l : Fin 8) (r : ℕ) (hr : r < 14) (hO : Above (3 + 2 * (8 * r + l.val)) O) {k : Pr F} :
    iprop(Ctx I K ∗ cred (tallyAt (cell c (recvC l)) r N) ∗ atPos ER (cell c (recvC l)) r ∅ 0 ∗ Ow c O)
      ⊢ iprop(((atPos ER (cell c (recvC l)) (r + 1) ∅ 0 ∗ reached ER (cell c (recvC l)) (r + 1)
              ∗ owns (c : Thread nD τ) (slotH l (par (r + 1 + 1))) fullShare (val I l r (up l c))
              ∗ reached ER (cell (up l c) (credC l)) r ∗ Ow c O) -∗ WP c k Q)
          -∗ WP c (recvWait l (r + 1) k) Q) := by
  iintro H Hk
  unfold recvWait
  iapply (wait_lane I K c (recvC l) N rfl (by simp) r r (3 + 2 * (8 * r + l.val)) hr hr (by rw [lv_cell]; exact le_refl _) hO
    (.waitDma2 (recvS l) (slotH l (par (r + 1))) (slotH l (par (r + 1 + 1))) ((View.wordExact_bits rfl).reshape _ _) ((View.wordExact_bits rfl).reshape _ _))
    (by rw [← slot_credit l (par (r + 1 + 1))]; exact wpE_waitDma2_eq 𝒱₀ (c : Thread nD τ) none Set.univ)) $$ H
  iintro ⟨Hat, Hr, Hp, HO⟩
  ihave Hp' := (Entails.of_eq (show pay I (recvC l) c r false
    = iprop(owns (c : Thread nD τ) (slotH l (par r)) fullShare (val I l r (up l c)) ∗ reached ER (cell (up l c) (credC l)) r) from rfl)) $$ Hp
  icases Hp' with ⟨Hs, Hc⟩
  iapply Hk
  rw [par_add_two]
  isplitl [Hat]; · iexact Hat
  isplitl [Hr]; · iexact Hr
  isplitl [Hs]; · iexact Hs
  isplitl [Hc]; · iexact Hc
  iexact HO

/-- The departures' wait at step `r + 1`. -/
theorem sendWait_spec (l : Fin 8) (r : ℕ) (hr : r < 14) (hO : Above 0 O) {k : Pr F} :
    iprop(Ctx I K ∗ cred (tallyAt (cell c (sendC l)) 0 N) ∗ atPos ER (cell c (sendC l)) r ∅ 0 ∗ Ow c O)
      ⊢ iprop(((atPos ER (cell c (sendC l)) (r + 1) ∅ 0 ∗ reached ER (cell c (sendC l)) (r + 1)
              ∗ owns (c : Thread nD τ) (slotH l (par (r + 1))) fullShare.left (val I l r c) ∗ Ow c O) -∗ WP c k Q)
          -∗ WP c (sendWait l (r + 1) k) Q) := by
  iintro H Hk
  unfold sendWait
  iapply (wait_lane I K c (sendC l) N rfl (by simp) r 0 0 hr (by decide) (by rw [lv_cell]; exact le_refl _) hO
    (.waitDma2 (sendS l) (slotH l (par (r + 1 + 1))) (slotH l (par (r + 1))) ((View.wordExact_bits rfl).reshape _ _) ((View.wordExact_bits rfl).reshape _ _))
    (by rw [← slot_credit l (par (r + 1))]; exact wpE_waitDma2_eq 𝒱₀ (c : Thread nD τ) none Set.univ)) $$ H
  iintro ⟨Hat, Hr, Hp, HO⟩
  ihave Hp' := (Entails.of_eq (show pay I (sendC l) c r false
    = owns (c : Thread nD τ) (slotH l (par (r + 1))) fullShare.left (val I l r c) from rfl)) $$ Hp
  iapply Hk
  isplitl [Hat]; · iexact Hat
  isplitl [Hr]; · iexact Hr
  isplitl [Hp']; · iexact Hp'
  iexact HO

/-- A block of the result, whatever it holds. -/
def anyOut (c : Dev nD) (l : Fin 8) (n : ℕ) : sProp (𝕄 F) := iprop(∃ X, owns (c : Thread nD τ) (outH l c (oi n)) fullShare X)
/-- A block of the result, finished. -/
def doneOut (c : Dev nD) (l : Fin 8) (n : ℕ) : sProp (𝕄 F) := owns (c : Thread nD τ) (outH l c (oi n)) fullShare (val I l (7 + n) c)

/-- What the copy of the `n`-th block hands back. -/
theorem pay_copy (l : Fin 8) (n : ℕ) :
    pay I (copyC l (par n)) c (n / 2) false = iprop(doneOut I c l n ∗ owns (c : Thread nD τ) (slotH l (par n)) fullShare.right (val I l (7 + n) c)) := by
  obtain ⟨r, rfl | rfl⟩ : ∃ r, n = 2 * r ∨ n = 2 * r + 1 := ⟨n / 2, by omega⟩
  · have h : par (2 * r) = 0 := Fin.ext (by show 2 * r % 2 = 0; omega)
    rw [h, show 2 * r / 2 = r from by omega]; rfl
  · have h : par (2 * r + 1) = 1 := Fin.ext (by show (2 * r + 1) % 2 = 1; omega)
    rw [h, show (2 * r + 1) / 2 = r from by omega]; rfl

/-- A copy into the result, from a share of slot `p`. -/
theorem copy_op (l : Fin 8) (n : ℕ) (p : Fin 2) (m : Fin 8) (hp : p = par n) (hm : m = oi n) (hn : n < 8) {k : PUnit → Pr F} {h₁ h₂ h₃} :
    iprop(Ctx I K ∗ owns (c : Thread nD τ) (slotH l p) fullShare.right (val I l (7 + n) c) ∗ anyOut c l n
        ∗ dutyTok ER (cell c (copyC l (par n))) (n / 2) false ∗ reached ER (cell c (copyC l (par n))) (n / 2))
      ⊢ iprop((cred (tallyAt (cell c (copyC l (par n))) 0 N) -∗ WP c (k ⟨⟩) Q)
          -∗ WP c (.op (.enqueueDma (slotH l p) (.here (outH l c m)) (.dma (copyS l p)) h₁ h₂ h₃) k) Q) := by
  subst hp hm
  have hcell : cell c (copyC l (par n)) = ((c : Thread nD τ), SemLoc.dma (copyS l (par n))) := by
    generalize par n = p; fin_cases p <;> rfl
  have hr : n / 2 < rounds (copyC l (par n)) := by
    generalize par n = p; fin_cases p <;> (show n / 2 < 4; omega)
  have ha : amt (copyC l (par n)) = N := by generalize par n = p; fin_cases p <;> rfl
  unfold anyOut owns
  iintro ⟨#HC, ⟨%fs, %hfs, Hs⟩, ⟨%Y, %fd, -, Hd⟩, Htok, Hr⟩ Hk
  rw [hcell]
  iapply (Rounds.wp_copy_pointsTo 𝒱₀ ER (ringRd I) (c : Thread nD τ) none (κ := K (c, copyC l (par n))) (src := slotH l (par n)) (dst := outH l c (oi n)) (sem := .dma (copyS l (par n))) (r := n / 2) (d := false) (fs := fs) (fd := fd)
    (by rw [← hcell, duties_cell I c _ _ hr]; exact Finset.mem_singleton_self _) 0 N (out_credit c l _) (by rw [← hcell, amount_cell, ha])
    (by
      rw [← hcell, payload_cell, pay_copy]
      unfold doneOut owns
      iintro ⟨Hd, Hs⟩
      isplitl [Hd]
      · iexists ((outH l c (oi n)).view.write (Elt F) fd ((slotH l (par n)).view.read (Elt F) fs) Finset.univ); isplitr
        · ipureintro; exact (View.read_write_univ _ _).trans hfs
        iexact Hd
      · iexists fs; isplitr
        · ipureintro; exact hfs
        iexact Hs)) $$ [Hs Hd Htok Hr]
  · isplitr; · rw [← hcell]; iapply (Ctx_inv I K c (copyC l (par n))); iexact HC
    isplitl [Hs]; · iexact Hs
    isplitl [Hd]; · iexact Hd
    isplitl [Htok]; · iexact Htok
    iexact Hr
  iexact Hk

/-- The start of the copy of the `n`-th block. -/
theorem copyOut_spec (l : Fin 8) (n : ℕ) (hn : n < 8) {k : Pr F} :
    iprop(Ctx I K ∗ owns (c : Thread nD τ) (slotH l (par (7 + n + 1))) fullShare.right (val I l (7 + n) c) ∗ anyOut c l n
        ∗ dutyTok ER (cell c (copyC l (par n))) (n / 2) false ∗ reached ER (cell c (copyC l (par n))) (n / 2))
      ⊢ iprop((cred (tallyAt (cell c (copyC l (par n))) 0 N) -∗ WP c k Q) -∗ WP c (copyOut l (7 + n) c k) Q) := by
  have hp : par n = par (7 + n + 1) := Fin.ext (by show n % 2 = (7 + n + 1) % 2; omega)
  have ho : (⟨(7 + n - 7) % 8, Nat.mod_lt _ (by decide)⟩ : Fin 8) = oi n := Fin.ext (by show (7 + n - 7) % 8 = n % 8; omega)
  unfold copyOut
  exact copy_op I K c l n _ _ hp.symm ho hn (k := fun _ => k)

/-- A wait for a copy into the result. -/
theorem pend_op (l : Fin 8) (n : ℕ) (p : Fin 2) (m : Fin 8) (hp : p = par n) (hn : n < 8) (hO : Above 0 O) {k : Pr F} {h₁ h₂} :
    iprop(Ctx I K ∗ cred (tallyAt (cell c (copyC l (par n))) 0 N) ∗ atPos ER (cell c (copyC l (par n))) (n / 2) ∅ 0 ∗ Ow c O)
      ⊢ iprop(((atPos ER (cell c (copyC l (par n))) (n / 2 + 1) ∅ 0 ∗ reached ER (cell c (copyC l (par n))) (n / 2 + 1)
              ∗ doneOut I c l n ∗ owns (c : Thread nD τ) (slotH l (par n)) fullShare.right (val I l (7 + n) c) ∗ Ow c O) -∗ WP c k Q)
          -∗ WP c (.op (.waitDma2 (copyS l p) (slotH l p) (outH l c m) h₁ h₂) fun _ => k) Q) := by
  subst hp
  have hr : n / 2 < rounds (copyC l (par n)) := by
    generalize par n = p; fin_cases p <;> (show n / 2 < 4; omega)
  have ha : amt (copyC l (par n)) = N := by generalize par n = p; fin_cases p <;> rfl
  have hs : csem (copyC l (par n)) = SemLoc.dma (copyS l (par n)) := by generalize par n = p; fin_cases p <;> rfl
  have hl : lv (cell c (copyC l (par n))) 0 ≤ 0 := by
    rw [lv_cell]; generalize par n = p; fin_cases p <;> exact le_refl _
  iintro H Hk
  iapply (wait_lane I K c (copyC l (par n)) N ha (by simp) (n / 2) 0 0 hr (by decide) hl hO
    (.waitDma2 (copyS l (par n)) (slotH l (par n)) (outH l c m) h₁ h₂)
    (by rw [hs, ← out_credit c l m]; exact wpE_waitDma2_eq 𝒱₀ (c : Thread nD τ) none Set.univ)) $$ H
  iintro ⟨Hat, Hr, Hp, HO⟩
  ihave Hp' := (Entails.of_eq (pay_copy I c l n)) $$ Hp
  icases Hp' with ⟨Hd, Hs⟩
  iapply Hk
  isplitl [Hat]; · iexact Hat
  isplitl [Hr]; · iexact Hr
  isplitl [Hd]; · iexact Hd
  isplitl [Hs]; · iexact Hs
  iexact HO

/-- The wait for the copy of the `n`-th block. -/
theorem pendWait_spec (l : Fin 8) (n : ℕ) (hn : n < 8) (hO : Above 0 O) {k : Pr F} :
    iprop(Ctx I K ∗ cred (tallyAt (cell c (copyC l (par n))) 0 N) ∗ atPos ER (cell c (copyC l (par n))) (n / 2) ∅ 0 ∗ Ow c O)
      ⊢ iprop(((atPos ER (cell c (copyC l (par n))) (n / 2 + 1) ∅ 0 ∗ reached ER (cell c (copyC l (par n))) (n / 2 + 1)
              ∗ doneOut I c l n ∗ owns (c : Thread nD τ) (slotH l (par n)) fullShare.right (val I l (7 + n) c) ∗ Ow c O) -∗ WP c k Q)
          -∗ WP c (pendWait l (8 + n) c k) Q) := by
  unfold pendWait
  exact pend_op I K c l n _ _ (Fin.ext (by show (8 + n) % 2 = n % 2; omega)) hn hO

/-- The credit of step `r + 1`: device `c` gives its free slot and is given the next device's. -/
theorem credit_spec (l : Fin 8) (a r : ℕ) (hr : r < 13) (ha : r + 1 ≤ a) (hR : Above (2 + 2 * (8 * (r + 1) + l.val)) R) {k : Pr F} :
    iprop(Ctx I K ∗ Ow c (debt' l a r c + R) ∗ dutyTok ER (cell (up l c) (credC l)) r false ∗ reached ER (cell (up l c) (credC l)) r
        ∗ anySlot c l (par (r + 1)) ∗ reached ER (cell c (recvC l)) (r + 1)
        ∗ cred (tallyAt (cell c (credC l)) r 1) ∗ atPos ER (cell c (credC l)) r ∅ 0)
      ⊢ iprop(((Ow c (debt' l a (r + 1) c + R) ∗ atPos ER (cell c (credC l)) (r + 1) ∅ 0 ∗ reached ER (cell c (credC l)) (r + 1)
              ∗ anySlot (dn l c) l (par (r + 1)) ∗ reached ER (cell (dn l c) (recvC l)) (r + 1)) -∗ WP c k Q)
          -∗ WP c (credit l c k) Q) := by
  unfold credit
  iintro ⟨#HC, HO, Htok, Hru, Hs, Hrr, Hcr, Hat⟩ Hk
  unfold Ow
  icases HO with ⟨%W, HO⟩
  iapply (Rounds.wp_signal 𝒱₀ ER (ringRd I) (c : Thread nD τ) none (dst := (up l c : Thread nD τ)) (sem := credS l) (k' := 1) (κ := K (up l c, credC l)) (r := r) (d := false) (O₀ := debt' l a r c + R)
      (by rw [show ((up l c : Thread nD τ), SemLoc.reg (credS l)) = cell (up l c) (credC l) from rfl, duties_cell I _ _ _ hr]; exact Finset.mem_singleton_self _)
      (amount_cell I (up l c) (credC l) r false) r (debt' l a (r + 1) c + R)
      (by rw [debt'_cred l c hr, add_right_comm]; rfl)) $$ [HO Htok Hs Hrr Hru]
  · isplitr; · iapply (Ctx_inv I K (up l c) (credC l)); iexact HC
    isplitl [HO]; · iexact HO
    isplitl [Htok]; · iexact Htok
    isplitl [Hs Hrr]
    · rw [show ((up l c : Thread nD τ), SemLoc.reg (credS l)) = cell (up l c) (credC l) from rfl, payload_cell,
        show pay I (credC l) (up l c) r false = iprop(anySlot (dn l (up l c)) l (par (r + 1)) ∗ reached ER (cell (dn l (up l c)) (recvC l)) (r + 1)) from rfl, dn_up]
      isplitl [Hs]; · iexact Hs
      iexact Hrr
    iexact Hru
  iintro HO
  iapply (wait_lane I K c (credC l) 1 rfl (by simp) r r (2 + 2 * (8 * (r + 1) + l.val)) hr (by omega) (by rw [lv_cell]; exact le_refl _)
    (O := debt' l a (r + 1) c + R) ((debt'_above l a (r + 1) c _ (by omega) (by omega)).add hR) (.semWait (credS l) 1) (wpE_semWait_eq 𝒱₀ (c : Thread nD τ) none Set.univ)) $$ [Hcr Hat HO]
  · isplitr; · iexact HC
    isplitl [Hcr]; · iexact Hcr
    isplitl [Hat]; · iexact Hat
    unfold Ow; iexists W; iexact HO
  iintro ⟨Hat, Hr, Hp, HO⟩
  ihave Hp' := (Entails.of_eq (show pay I (credC l) c r false
    = iprop(anySlot (dn l c) l (par (r + 1)) ∗ reached ER (cell (dn l c) (recvC l)) (r + 1)) from rfl)) $$ Hp
  icases Hp' with ⟨Hd, Hrd⟩
  iapply Hk
  unfold Ow
  isplitl [HO]; · iexact HO
  isplitl [Hat]; · iexact Hat
  isplitl [Hr]; · iexact Hr
  isplitl [Hd]; · iexact Hd
  iexact Hrd

/-- The departure of step `s`. -/
theorem send_spec (l : Fin 8) (s b : ℕ) (hs : s < 14) {k : Pr F} :
    iprop(Ctx I K ∗ owns (c : Thread nD τ) (slotH l (par (s + 1))) fullShare.left (val I l s c) ∗ anySlot (dn l c) l (par s)
        ∗ reached ER (cell c (credC l)) s ∗ Ow c (debt' l s b c + R)
        ∗ dutyTok ER (cell c (sendC l)) s false ∗ reached ER (cell c (sendC l)) s
        ∗ dutyTok ER (cell (dn l c) (recvC l)) s false ∗ reached ER (cell (dn l c) (recvC l)) s)
      ⊢ iprop(((cred (tallyAt (cell c (sendC l)) 0 N) ∗ Ow c (debt' l (s + 1) b c + R)) -∗ WP c k Q)
          -∗ WP c (send l s c k) Q) := by
  unfold send anySlot owns
  iintro ⟨#HC, ⟨%fs, %hfs, Hs⟩, ⟨%Y, %fd, -, Hd⟩, Hrc, HO, Ht1, Hr1, Ht2, Hr2⟩ Hk
  unfold Ow
  icases HO with ⟨%W, HO⟩
  iapply (Rounds.wp_send_pointsTo_with 𝒱₀ ER (ringRd I) (c : Thread nD τ) none (c' := (dn l c : Thread nD τ)) (src := slotH l (par (s + 1))) (dst := slotH l (par s)) (sS := .dma (sendS l)) (sem := .dma (recvS l))
      (κ₁ := K (c, sendC l)) (κ₂ := K (dn l c, recvC l)) (r₁ := s) (r₂ := s) (d₁ := false) (d₂ := false) (O₀ := debt' l s b c + R) (fs := fs) (fd := fd)
      (F := reached ER (cell c (credC l)) s)
      (by rw [show ((c : Thread nD τ), SemLoc.dma (sendS l)) = cell c (sendC l) from rfl, duties_cell I _ _ _ hs]; exact Finset.mem_singleton_self _)
      (by rw [show ((dn l c : Thread nD τ), SemLoc.dma (recvS l)) = cell (dn l c) (recvC l) from rfl, duties_cell I _ _ _ hs]; exact Finset.mem_singleton_self _)
      s 0 N (slot_credit l _) (amount_cell I c (sendC l) s false) (amount_cell I (dn l c) (recvC l) s false) (debt' l (s + 1) b c + R)
      (by rw [debt'_recv l c hs, add_right_comm]; rfl) (W := W)
      (by
        rw [show ((c : Thread nD τ), SemLoc.dma (sendS l)) = cell c (sendC l) from rfl, payload_cell,
          show pay I (sendC l) c s false = owns (c : Thread nD τ) (slotH l (par (s + 1))) fullShare.left (val I l s c) from rfl]
        unfold owns
        iintro H; iexists fs; isplitr; · ipureintro; exact hfs
        iexact H)
      (by
        rw [show ((dn l c : Thread nD τ), SemLoc.dma (recvS l)) = cell (dn l c) (recvC l) from rfl, payload_cell,
          show pay I (recvC l) (dn l c) s false = iprop(owns (dn l c : Thread nD τ) (slotH l (par s)) fullShare (val I l s (up l (dn l c)))
            ∗ reached ER (cell (up l (dn l c)) (credC l)) s) from rfl, up_dn]
        unfold owns
        iintro ⟨H, Hr⟩
        isplitl [H]
        · iexists ((slotH l (par s)).view.write (Elt F) fd ((slotH l (par (s + 1))).view.read (Elt F) fs) Finset.univ); isplitr
          · ipureintro; exact (View.read_write_univ _ _).trans hfs
          iexact H
        iexact Hr)) $$ [Hs Hd Hrc HO Ht1 Hr1 Ht2 Hr2]
  · isplitr; · iapply (Ctx_inv I K c (sendC l)); iexact HC
    isplitr; · iapply (Ctx_inv I K (dn l c) (recvC l)); iexact HC
    isplitl [Hs]; · iexact Hs
    isplitl [Hd Hrc]
    · isplitl [Hd]; · iexact Hd
      iexact Hrc
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Cert.KernelIdeal.Ring

end
-- ==== Proof.Lane.lean ====
/-
What a lane of a device holds before each step, and that a step takes it to the next.
-/
module

public import proofs.«01_k».proof.Proof.Moves

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Ck → ℕ)
variable (c : Dev nD) {Q : PUnit → sProp (𝕄 F)} {O R : CellTallies nD τ sig ℕ}

/-! ## What is left to use -/

/-- What the arrivals from round `a` on allow to wait for. -/
def RC (l : Fin 8) (a : ℕ) : sProp (𝕄 F) := bigSep (Finset.Ico a 14) fun r => cred (tallyAt (cell c (recvC l)) r N)
/-- The turns to give credit from round `a` on, and what allows to wait for it. -/
def CT (l : Fin 8) (a : ℕ) : sProp (𝕄 F) :=
  bigSep (Finset.Ico a 13) fun r => iprop(dutyTok ER (cell (up l c) (credC l)) r false ∗ cred (tallyAt (cell c (credC l)) r 1))
/-- The turns to send from round `a` on. -/
def RT (l : Fin 8) (a : ℕ) : sProp (𝕄 F) :=
  bigSep (Finset.Ico a 14) fun r => iprop(dutyTok ER (cell (dn l c) (recvC l)) r false ∗ dutyTok ER (cell c (sendC l)) r false)
/-- The blocks of the result still to be written from block `a` on, and the turns to copy them. -/
def OT (l : Fin 8) (a : ℕ) : sProp (𝕄 F) :=
  bigSep (Finset.Ico a 8) fun n => iprop(dutyTok ER (cell c (copyC l (par n))) (n / 2) false ∗ anyOut c l n)
/-- The first `a` blocks of the result. -/
def Done (l : Fin 8) (a : ℕ) : sProp (𝕄 F) := bigSep (Finset.range a) fun n => doneOut I c l n

theorem bigSep_head {a b : ℕ} (h : a < b) (Φ : ℕ → sProp (𝕄 F)) :
    bigSep (Finset.Ico a b) Φ = iprop(Φ a ∗ bigSep (Finset.Ico (a + 1) b) Φ) := by
  rw [Ico_head h, bigSep_insert head_notMem]; rfl

theorem bigSep_last (a : ℕ) (Φ : ℕ → sProp (𝕄 F)) :
    bigSep (Finset.range (a + 1)) Φ = iprop(Φ a ∗ bigSep (Finset.range a) Φ) := by
  rw [Finset.range_add_one, bigSep_insert Finset.notMem_range_self]; rfl

/-- How far the two copies' semaphores are when `m` blocks were waited for. -/
def Pos (l : Fin 8) (m : ℕ) : sProp (𝕄 F) :=
  iprop(atPos ER (cell c (copyC l (par m))) (m / 2) ∅ 0 ∗ atPos ER (cell c (copyC l (par (m + 1)))) ((m + 1) / 2) ∅ 0)

/-- Before the first copy. -/
def Cp0 (l : Fin 8) : sProp (𝕄 F) :=
  iprop(Pos c l 0 ∗ reached ER (cell c (copyC l (par 0))) (0 / 2) ∗ reached ER (cell c (copyC l (par (0 + 1)))) ((0 + 1) / 2) ∗ OT c l 0)
/-- While block `m` is copied. -/
def Cp (l : Fin 8) (m : ℕ) : sProp (𝕄 F) :=
  iprop(cred (tallyAt (cell c (copyC l (par m))) 0 N) ∗ Pos c l m ∗ reached ER (cell c (copyC l (par (m + 1)))) ((m + 1) / 2)
    ∗ OT c l (m + 1) ∗ Done I c l m)
/-- While blocks `m` and `m + 1` are copied. -/
def Cq (l : Fin 8) (m : ℕ) : sProp (𝕄 F) :=
  iprop(cred (tallyAt (cell c (copyC l (par m))) 0 N) ∗ cred (tallyAt (cell c (copyC l (par (m + 1)))) 0 N) ∗ Pos c l m
    ∗ OT c l (m + 1 + 1) ∗ Done I c l m)

theorem copyFirst (l : Fin 8) {k : Pr F} :
    iprop(Ctx I K ∗ Cp0 c l ∗ owns (c : Thread nD τ) (slotH l (par (7 + 1))) fullShare.right (val I l 7 c))
      ⊢ iprop((Cp I c l 0 -∗ WP c k Q) -∗ WP c (copyOut l 7 c k) Q) := by
  unfold Cp0 Cp OT Done
  rw [bigSep_head (a := 0) (b := 8) (by decide)]
  iintro ⟨#HC, ⟨Hp, Hr0, Hr1, ⟨Ht, Ho⟩, HO⟩, Hs⟩ Hk
  iapply (copyOut_spec I K c l 0 (by decide)) $$ [Hs Ho Ht Hr0]
  · isplitr; · iexact HC
    isplitl [Hs]; · iexact Hs
    isplitl [Ho]; · iexact Ho
    isplitl [Ht]; · iexact Ht
    iexact Hr0
  iintro Hc
  iapply Hk
  isplitl [Hc]; · iexact Hc
  isplitl [Hp]; · iexact Hp
  isplitl [Hr1]; · iexact Hr1
  isplitl [HO]; · iexact HO
  rw [Finset.range_zero, bigSep_empty]
  iempintro

theorem copyNext (l : Fin 8) (s m : ℕ) (hs : s = 8 + m) (hm : m < 7) {k : Pr F} :
    iprop(Ctx I K ∗ Cp I c l m ∗ owns (c : Thread nD τ) (slotH l (par (s + 1))) fullShare.right (val I l s c))
      ⊢ iprop((Cq I c l m -∗ WP c k Q) -∗ WP c (copyOut l s c k) Q) := by
  obtain rfl : s = 7 + (m + 1) := by omega
  unfold Cp Cq OT
  rw [bigSep_head (a := m + 1) (b := 8) (by omega)]
  iintro ⟨#HC, ⟨Hc0, Hp, Hr1, ⟨⟨Ht, Ho⟩, HO⟩, HD⟩, Hs⟩ Hk
  iapply (copyOut_spec I K c l (m + 1) (by omega)) $$ [Hs Ho Ht Hr1]
  · isplitr; · iexact HC
    isplitl [Hs]; · iexact Hs
    isplitl [Ho]; · iexact Ho
    isplitl [Ht]; · iexact Ht
    iexact Hr1
  iintro Hc
  iapply Hk
  isplitl [Hc0]; · iexact Hc0
  isplitl [Hc]; · iexact Hc
  isplitl [Hp]; · iexact Hp
  isplitl [HO]; · iexact HO
  iexact HD

theorem Pos_eq (l : Fin 8) (m : ℕ) : (Pos c l m : sProp (𝕄 F))
    = iprop(atPos ER (cell c (copyC l (par m))) (m / 2) ∅ 0 ∗ atPos ER (cell c (copyC l (par (m + 1)))) ((m + 1) / 2) ∅ 0) := rfl

theorem Pos_step (l : Fin 8) (m : ℕ) :
    (iprop(atPos ER (cell c (copyC l (par m))) (m / 2 + 1) ∅ 0 ∗ atPos ER (cell c (copyC l (par (m + 1)))) ((m + 1) / 2) ∅ 0) : sProp (𝕄 F))
      ⊢ Pos c l (m + 1) := by
  unfold Pos
  rw [show par (m + 1 + 1) = par m from par_add_two m, show (m + 1 + 1) / 2 = m / 2 + 1 from by omega]
  iintro ⟨H1, H2⟩
  isplitl [H2]; · iexact H2
  iexact H1

theorem pendNext (l : Fin 8) (s m : ℕ) (hs : s = 8 + m) (hm : m < 7) (hO : Above 0 O) {k : Pr F} :
    iprop(Ctx I K ∗ Cq I c l m ∗ Ow c O)
      ⊢ iprop(((Cp I c l (m + 1) ∗ owns (c : Thread nD τ) (slotH l (par s)) fullShare.right (val I l (7 + m) c) ∗ Ow c O) -∗ WP c k Q)
          -∗ WP c (pendWait l s c k) Q) := by
  subst hs
  rw [show par (8 + m) = par m from Fin.ext (by show (8 + m) % 2 = m % 2; omega)]
  unfold Cp Cq Done
  rw [bigSep_last]
  iintro ⟨#HC, ⟨Hc0, Hc1, Hp, HO, HD⟩, Ho⟩ Hk
  ihave Hp' := (Entails.of_eq (Pos_eq c l m)) $$ Hp
  icases Hp' with ⟨Hp0, Hp1⟩
  iapply (pendWait_spec I K c l m (by omega) hO) $$ [Hc0 Hp0 Ho]
  · isplitr; · iexact HC
    isplitl [Hc0]; · iexact Hc0
    isplitl [Hp0]; · iexact Hp0
    iexact Ho
  iintro ⟨Hp0, Hr, Hd, Hs, Ho⟩
  iapply Hk
  isplitr [Hs Ho]
  · isplitl [Hc1]; · iexact Hc1
    isplitl [Hp0 Hp1]
    · iapply (Pos_step c l m)
      isplitl [Hp0]; · iexact Hp0
      iexact Hp1
    isplitl [Hr]
    · rw [show par (m + 1 + 1) = par m from par_add_two m, show (m + 1 + 1) / 2 = m / 2 + 1 from by omega]
      iexact Hr
    isplitl [HO]; · iexact HO
    isplitl [Hd]; · iexact Hd
    iexact HD
  isplitl [Hs]; · iexact Hs
  iexact Ho

theorem pendLast (l : Fin 8) (hO : Above 0 O) {k : Pr F} :
    iprop(Ctx I K ∗ Cp I c l 7 ∗ Ow c O)
      ⊢ iprop(((Pos c l 8 ∗ Done I c l 8 ∗ owns (c : Thread nD τ) (slotH l 1) fullShare.right (val I l 14 c) ∗ Ow c O) -∗ WP c k Q)
          -∗ WP c (pendWait l 15 c k) Q) := by
  unfold Cp Done
  rw [bigSep_last 7]
  iintro ⟨#HC, ⟨Hc0, Hp, -, -, HD⟩, Ho⟩ Hk
  ihave Hp' := (Entails.of_eq (Pos_eq c l 7)) $$ Hp
  icases Hp' with ⟨Hp0, Hp1⟩
  iapply (pendWait_spec I K c l 7 (by omega) hO) $$ [Hc0 Hp0 Ho]
  · isplitr; · iexact HC
    isplitl [Hc0]; · iexact Hc0
    isplitl [Hp0]; · iexact Hp0
    iexact Ho
  iintro ⟨Hp0, Hr, Hd, Hs, Ho⟩
  iapply Hk
  isplitl [Hp0 Hp1]
  · iapply (Pos_step c l 7)
    isplitl [Hp0]; · iexact Hp0
    iexact Hp1
  isplitl [Hd HD]
  · isplitl [Hd]; · iexact Hd
    iexact HD
  isplitl [Hs]; · iexact Hs
  iexact Ho

/-! ## The links -/

/-- Before step `r + 1`: what a lane holds of its own semaphores and turns, one departure being under way. -/
def Wires (l : Fin 8) (r : ℕ) : sProp (𝕄 F) :=
  iprop(atPos ER (cell c (recvC l)) r ∅ 0 ∗ atPos ER (cell c (sendC l)) r ∅ 0 ∗ atPos ER (cell c (credC l)) r ∅ 0
    ∗ RC c l r ∗ CT c l r ∗ RT c l (r + 1) ∗ cred (tallyAt (cell c (sendC l)) 0 N))

/-- The links once the arrival of step `r + 1` is in. -/
def Got (l : Fin 8) (r : ℕ) : sProp (𝕄 F) :=
  iprop(atPos ER (cell c (recvC l)) (r + 1) ∅ 0 ∗ reached ER (cell c (recvC l)) (r + 1) ∗ reached ER (cell (up l c) (credC l)) r
    ∗ atPos ER (cell c (sendC l)) r ∅ 0 ∗ atPos ER (cell c (credC l)) r ∅ 0
    ∗ RC c l (r + 1) ∗ CT c l r ∗ RT c l (r + 1) ∗ cred (tallyAt (cell c (sendC l)) 0 N))

/-- The links once the departure before step `r + 1` has left too. -/
def Free (l : Fin 8) (r : ℕ) : sProp (𝕄 F) :=
  iprop(atPos ER (cell c (recvC l)) (r + 1) ∅ 0 ∗ reached ER (cell c (recvC l)) (r + 1) ∗ reached ER (cell (up l c) (credC l)) r
    ∗ atPos ER (cell c (sendC l)) (r + 1) ∅ 0 ∗ reached ER (cell c (sendC l)) (r + 1) ∗ atPos ER (cell c (credC l)) r ∅ 0
    ∗ RC c l (r + 1) ∗ CT c l r ∗ RT c l (r + 1))

theorem arrive (l : Fin 8) (r : ℕ) (hr : r < 14) (hO : Above (3 + 2 * (8 * r + l.val)) O) {k : Pr F} :
    iprop(Ctx I K ∗ Wires c l r ∗ Ow c O)
      ⊢ iprop(((Got c l r ∗ owns (c : Thread nD τ) (slotH l (par (r + 1 + 1))) fullShare (val I l r (up l c)) ∗ Ow c O) -∗ WP c k Q)
          -∗ WP c (recvWait l (r + 1) k) Q) := by
  unfold Wires Got RC
  rw [bigSep_head (a := r) (b := 14) hr]
  iintro ⟨#HC, ⟨Hr, Hs, Hc, ⟨Hcr, HRC⟩, HCT, HRT, Hf⟩, Ho⟩ Hk
  iapply (recvWait_spec I K c l r hr hO) $$ [Hcr Hr Ho]
  · isplitr; · iexact HC
    isplitl [Hcr]; · iexact Hcr
    isplitl [Hr]; · iexact Hr
    iexact Ho
  iintro ⟨Hr, Hrr, Hsl, Hcu, Ho⟩
  iapply Hk
  isplitr [Hsl Ho]
  · isplitl [Hr]; · iexact Hr
    isplitl [Hrr]; · iexact Hrr
    isplitl [Hcu]; · iexact Hcu
    isplitl [Hs]; · iexact Hs
    isplitl [Hc]; · iexact Hc
    isplitl [HRC]; · iexact HRC
    isplitl [HCT]; · iexact HCT
    isplitl [HRT]; · iexact HRT
    iexact Hf
  isplitl [Hsl]; · iexact Hsl
  iexact Ho

theorem leave (l : Fin 8) (r : ℕ) (hr : r < 14) (hO : Above 0 O) {k : Pr F} :
    iprop(Ctx I K ∗ Got c l r ∗ Ow c O)
      ⊢ iprop(((Free c l r ∗ owns (c : Thread nD τ) (slotH l (par (r + 1))) fullShare.left (val I l r c) ∗ Ow c O) -∗ WP c k Q)
          -∗ WP c (sendWait l (r + 1) k) Q) := by
  unfold Got Free
  iintro ⟨#HC, ⟨Hr, Hrr, Hcu, Hs, Hc, HRC, HCT, HRT, Hf⟩, Ho⟩ Hk
  iapply (sendWait_spec I K c l r hr hO) $$ [Hf Hs Ho]
  · isplitr; · iexact HC
    isplitl [Hf]; · iexact Hf
    isplitl [Hs]; · iexact Hs
    iexact Ho
  iintro ⟨Hs, Hsr, Hsl, Ho⟩
  iapply Hk
  isplitr [Hsl Ho]
  · isplitl [Hr]; · iexact Hr
    isplitl [Hrr]; · iexact Hrr
    isplitl [Hcu]; · iexact Hcu
    isplitl [Hs]; · iexact Hs
    isplitl [Hsr]; · iexact Hsr
    isplitl [Hc]; · iexact Hc
    isplitl [HRC]; · iexact HRC
    isplitl [HCT]; · iexact HCT
    iexact HRT
  isplitl [Hsl]; · iexact Hsl
  iexact Ho

theorem depart (l : Fin 8) (r : ℕ) (hr : r < 13) (hR : Above (2 + 2 * (8 * (r + 1) + l.val)) R) {k : Pr F} :
    iprop(Ctx I K ∗ Free c l r ∗ anySlot c l (par (r + 1)) ∗ owns (c : Thread nD τ) (slotH l (par (r + 1 + 1))) fullShare.left (val I l (r + 1) c)
        ∗ Ow c (debt' l (r + 1) r c + R))
      ⊢ iprop(((Wires c l (r + 1) ∗ Ow c (debt' l (r + 1 + 1) (r + 1) c + R)) -∗ WP c k Q)
          -∗ WP c (credit l c <| send l (r + 1) c k) Q) := by
  unfold Free Wires CT RT
  rw [bigSep_head (a := r) (b := 13) hr, bigSep_head (a := r + 1) (b := 14) (by omega)]
  iintro ⟨#HC, ⟨Hr, Hrr, Hcu, Hs, Hsr, Hc, HRC, ⟨⟨Htc, Hcc⟩, HCT⟩, ⟨⟨Htr, Hts⟩, HRT⟩⟩, Hany, Hsl, Ho⟩ Hk
  iapply (credit_spec I K c l (r + 1) r hr (le_refl _) hR) $$ [Ho Htc Hcu Hany Hrr Hcc Hc]
  · isplitr; · iexact HC
    isplitl [Ho]; · iexact Ho
    isplitl [Htc]; · iexact Htc
    isplitl [Hcu]; · iexact Hcu
    isplitl [Hany]; · iexact Hany
    isplitl [Hrr]; · iexact Hrr
    isplitl [Hcc]; · iexact Hcc
    iexact Hc
  iintro ⟨Ho, Hc, Hcr, Hdn, Hrd⟩
  iapply (send_spec I K c l (r + 1) (r + 1) (by omega)) $$ [Hsl Hdn Hcr Ho Hts Hsr Htr Hrd]
  · isplitr; · iexact HC
    isplitl [Hsl]; · iexact Hsl
    isplitl [Hdn]; · iexact Hdn
    isplitl [Hcr]; · iexact Hcr
    isplitl [Ho]; · iexact Ho
    isplitl [Hts]; · iexact Hts
    isplitl [Hsr]; · iexact Hsr
    isplitl [Htr]; · iexact Htr
    iexact Hrd
  iintro ⟨Hf, Ho⟩
  iapply Hk
  isplitr [Ho]
  · isplitl [Hr]; · iexact Hr
    isplitl [Hs]; · iexact Hs
    isplitl [Hc]; · iexact Hc
    isplitl [HRC]; · iexact HRC
    isplitl [HCT]; · iexact HCT
    isplitl [HRT]; · iexact HRT
    iexact Hf
  iexact Ho

/-! ## The additions -/

theorem halves (l : Fin 8) (p : Fin 2) (X : FVec F S512x1024 .f32) :
    (owns (c : Thread nD τ) (slotH l p) fullShare X : sProp (𝕄 F))
      ⊢ iprop(owns (c : Thread nD τ) (slotH l p) fullShare.left X ∗ owns (c : Thread nD τ) (slotH l p) fullShare.right X) :=
  (owns_halves _ _ _ _).1

theorem join (l : Fin 8) (p : Fin 2) (X : FVec F S512x1024 .f32) :
    (iprop(owns (c : Thread nD τ) (slotH l p) fullShare.left X ∗ owns (c : Thread nD τ) (slotH l p) fullShare.right X) : sProp (𝕄 F))
      ⊢ anySlot c l p := by
  unfold anySlot
  iintro H
  iexists X
  iapply (owns_halves _ _ _ _).2
  iexact H

theorem accum_spec (l : Fin 8) (s : ℕ) (Y P : FVec F S512x1024 .f32) {k : Pr F} :
    iprop(owns (c : Thread nD τ) (slotH l (par (s + 1))) fullShare Y ∗ owns (c : Thread nD τ) (pcM l) fullShare P)
      ⊢ iprop(((owns (c : Thread nD τ) (slotH l (par (s + 1))) fullShare (addf Y P) ∗ anyPc c l) -∗ WP c k Q) -∗ WP c (accum l s k) Q) := by
  unfold accum
  iintro ⟨Hs, Hp⟩ Hk
  iapply (load_slot c l (par (s + 1)) fullShare Y) $$ Hs
  iintro Hs
  iapply (load_pc c l P) $$ Hp
  iintro Hp
  iapply (load_slot c l (par (s + 1)) fullShare Y) $$ Hs
  iintro Hs
  iapply (store_slot c l (par (s + 1))) $$ [Hs]
  · unfold anySlot; iexists Y; iexact Hs
  iintro Hs
  iapply Hk
  isplitl [Hs]
  · rw [show (shapeCast S512x1024 (accV (shapeCast S1x512x1024 Y shapeCasts_S512x1024_S1x512x1024) P) shapeCasts_S1x512x1024_S512x1024 : FVec F S512x1024 .f32) = addf Y P from by
      unfold accV; rw [shapeCast_shapeCast, shapeCast_shapeCast]]
    iexact Hs
  unfold anyPc; iexists P; iexact Hp

/-! ## A step of a lane -/

/-- Before step `0`. -/
def Start (l : Fin 8) : sProp (𝕄 F) :=
  iprop(atPos ER (cell c (recvC l)) 0 ∅ 0 ∗ atPos ER (cell c (sendC l)) 0 ∅ 0 ∗ atPos ER (cell c (credC l)) 0 ∅ 0
    ∗ reached ER (cell c (sendC l)) 0 ∗ reached ER (cell c (credC l)) 0 ∗ reached ER (cell (dn l c) (recvC l)) 0
    ∗ RC c l 0 ∗ CT c l 0 ∗ RT c l 0 ∗ anySlot (dn l c) l 0 ∗ owns (c : Thread nD τ) (slotH l 1) fullShare (val I l 0 c) ∗ Cp0 c l)

/-- Before step `r + 1`, while partial products are added. -/
def Adding (l : Fin 8) (r : ℕ) : sProp (𝕄 F) :=
  iprop(Wires c l r ∗ owns (c : Thread nD τ) (slotH l (par (r + 1))) fullShare.right (val I l r c) ∗ Cp0 c l)

/-- After the last step. -/
def Ended (l : Fin 8) : sProp (𝕄 F) :=
  iprop(atPos ER (cell c (recvC l)) 14 ∅ 0 ∗ atPos ER (cell c (sendC l)) 14 ∅ 0 ∗ atPos ER (cell c (credC l)) 13 ∅ 0
    ∗ anySlot c l 0 ∗ owns (c : Thread nD τ) (slotH l 1) fullShare.left (val I l 14 c) ∗ Cp I c l 7)

/-- What a lane holds before step `s`. -/
def Lane (l : Fin 8) (s : ℕ) : sProp (𝕄 F) :=
  if s = 0 then Start I c l else if s ≤ 7 then Adding I c l (s - 1) else if s ≤ 14 then iprop(Wires c l (s - 1) ∗ Cp I c l (s - 8)) else Ended I c l

/-- The partial product a lane adds at step `s`, when it adds one. -/
def pcAt (l : Fin 8) (s : ℕ) : sProp (𝕄 F) :=
  if 1 ≤ s ∧ s ≤ 7 then owns (c : Thread nD τ) (pcM l) fullShare (pt I l (s - 1) c) else anyPc c l

theorem pcAt_any (l : Fin 8) (s : ℕ) : pcAt I c l s ⊢ anyPc c l := by
  unfold pcAt; split
  · unfold anyPc; iintro H; iexists _; iexact H
  · iintro H; iexact H

theorem step_start (l : Fin 8) {k : Pr F} :
    iprop(Ctx I K ∗ Start I c l ∗ Ow c (debt' l 0 0 c + R))
      ⊢ iprop(((Adding I c l 0 ∗ Ow c (debt' l 1 0 c + R)) -∗ WP c k Q) -∗ WP c (send l 0 c k) Q) := by
  unfold Start Adding Wires RT
  rw [bigSep_head (a := 0) (b := 14) (by decide)]
  iintro ⟨#HC, ⟨Hr, Hs, Hc, Hrs, Hrc, Hrd, HRC, HCT, ⟨⟨Htr, Hts⟩, HRT⟩, Hdn, Hsl, HCp⟩, Ho⟩ Hk
  ihave Hh := (halves c l 1 (val I l 0 c)) $$ Hsl
  icases Hh with ⟨Hl, Hri⟩
  iapply (send_spec I K c l 0 0 (by decide)) $$ [Hl Hdn Hrc Ho Hts Hrs Htr Hrd]
  · isplitr; · iexact HC
    isplitl [Hl]; · iexact Hl
    isplitl [Hdn]; · iexact Hdn
    isplitl [Hrc]; · iexact Hrc
    isplitl [Ho]; · iexact Ho
    isplitl [Hts]; · iexact Hts
    isplitl [Hrs]; · iexact Hrs
    isplitl [Htr]; · iexact Htr
    iexact Hrd
  iintro ⟨Hf, Ho⟩
  iapply Hk
  isplitr [Ho]
  · isplitl [Hr Hs Hc HRC HCT HRT Hf]
    · isplitl [Hr]; · iexact Hr
      isplitl [Hs]; · iexact Hs
      isplitl [Hc]; · iexact Hc
      isplitl [HRC]; · iexact HRC
      isplitl [HCT]; · iexact HCT
      isplitl [HRT]; · iexact HRT
      iexact Hf
    isplitl [Hri]; · iexact Hri
    iexact HCp
  iexact Ho

/-- What is owed is above the arrivals' wait of step `r + 1`. -/
theorem above_recv (l : Fin 8) (r : ℕ) (hR : Above (2 + 2 * (8 * (r + 1) + l.val)) R) :
    Above (3 + 2 * (8 * r + l.val)) (debt' l (r + 1) r c + R) :=
  (debt'_above l (r + 1) r c _ (by omega) (by omega)).add (hR.mono (by omega))

theorem step_add (l : Fin 8) (r : ℕ) (hr : r < 6) (hR : Above (2 + 2 * (8 * (r + 1) + l.val)) R) {k : Pr F} :
    iprop(Ctx I K ∗ Adding I c l r ∗ owns (c : Thread nD τ) (pcM l) fullShare (pt I l r c) ∗ Ow c (debt' l (r + 1) r c + R))
      ⊢ iprop(((Adding I c l (r + 1) ∗ anyPc c l ∗ Ow c (debt' l (r + 1 + 1) (r + 1) c + R)) -∗ WP c k Q)
          -∗ WP c (recvWait l (r + 1) <| accum l (r + 1) <| sendWait l (r + 1) <| credit l c <| send l (r + 1) c k) Q) := by
  have hO := above_recv c l r hR
  have hv : val I l (r + 1) c = addf (val I l r (up l c)) (pt I l r c) := if_pos (by omega)
  unfold Adding
  iintro ⟨#HC, ⟨HW, Hsl, HCp⟩, Hpc, Ho⟩ Hk
  iapply (arrive I K c l r (by omega) hO) $$ [HW Ho]
  · isplitr; · iexact HC
    isplitl [HW]; · iexact HW
    iexact Ho
  iintro ⟨HG, Hnew, Ho⟩
  iapply (accum_spec c l (r + 1) (val I l r (up l c)) (pt I l r c)) $$ [Hnew Hpc]
  · isplitl [Hnew]; · iexact Hnew
    iexact Hpc
  iintro ⟨Hnew, Hpc⟩
  rw [← hv]
  ihave Hh := (halves c l _ _) $$ Hnew
  icases Hh with ⟨Hnl, Hnr⟩
  iapply (leave I K c l r (by omega) (hO.mono (Nat.zero_le _))) $$ [HG Ho]
  · isplitr; · iexact HC
    isplitl [HG]; · iexact HG
    iexact Ho
  iintro ⟨HF, Hl, Ho⟩
  iapply (depart I K c l r (by omega) hR) $$ [HF Hl Hsl Hnl Ho]
  · isplitr; · iexact HC
    isplitl [HF]; · iexact HF
    isplitl [Hl Hsl]
    · iapply (join c l (par (r + 1)) (val I l r c))
      isplitl [Hl]; · iexact Hl
      iexact Hsl
    isplitl [Hnl]; · iexact Hnl
    iexact Ho
  iintro ⟨HW, Ho⟩
  iapply Hk
  isplitl [HW Hnr HCp]
  · isplitl [HW]; · iexact HW
    isplitl [Hnr]; · iexact Hnr
    iexact HCp
  isplitl [Hpc]; · iexact Hpc
  iexact Ho

theorem step_turn (l : Fin 8) (hR : Above (2 + 2 * (8 * (6 + 1) + l.val)) R) {k : Pr F} :
    iprop(Ctx I K ∗ Adding I c l 6 ∗ owns (c : Thread nD τ) (pcM l) fullShare (pt I l 6 c) ∗ Ow c (debt' l (6 + 1) 6 c + R))
      ⊢ iprop(((Wires c l 7 ∗ Cp I c l 0 ∗ anyPc c l ∗ Ow c (debt' l (6 + 1 + 1) (6 + 1) c + R)) -∗ WP c k Q)
          -∗ WP c (recvWait l (6 + 1) <| accum l (6 + 1) <| copyOut l 7 c <| sendWait l (6 + 1) <| credit l c <| send l (6 + 1) c k) Q) := by
  have hO := above_recv c l 6 hR
  have hv : val I l (6 + 1) c = addf (val I l 6 (up l c)) (pt I l 6 c) := if_pos (show (6 : ℕ) < 7 by decide)
  unfold Adding
  iintro ⟨#HC, ⟨HW, Hsl, HCp⟩, Hpc, Ho⟩ Hk
  iapply (arrive I K c l 6 (by omega) hO) $$ [HW Ho]
  · isplitr; · iexact HC
    isplitl [HW]; · iexact HW
    iexact Ho
  iintro ⟨HG, Hnew, Ho⟩
  iapply (accum_spec c l (6 + 1) (val I l 6 (up l c)) (pt I l 6 c)) $$ [Hnew Hpc]
  · isplitl [Hnew]; · iexact Hnew
    iexact Hpc
  iintro ⟨Hnew, Hpc⟩
  rw [← hv]
  ihave Hh := (halves c l _ _) $$ Hnew
  icases Hh with ⟨Hnl, Hnr⟩
  iapply (copyFirst I K c l) $$ [HCp Hnr]
  · isplitr; · iexact HC
    isplitl [HCp]; · iexact HCp
    iexact Hnr
  iintro HCp
  iapply (leave I K c l 6 (by omega) (hO.mono (Nat.zero_le _))) $$ [HG Ho]
  · isplitr; · iexact HC
    isplitl [HG]; · iexact HG
    iexact Ho
  iintro ⟨HF, Hl, Ho⟩
  iapply (depart I K c l 6 (by omega) hR) $$ [HF Hl Hsl Hnl Ho]
  · isplitr; · iexact HC
    isplitl [HF]; · iexact HF
    isplitl [Hl Hsl]
    · iapply (join c l (par (6 + 1)) (val I l 6 c))
      isplitl [Hl]; · iexact Hl
      iexact Hsl
    isplitl [Hnl]; · iexact Hnl
    iexact Ho
  iintro ⟨HW, Ho⟩
  iapply Hk
  isplitl [HW]; · iexact HW
  isplitl [HCp]; · iexact HCp
  isplitl [Hpc]; · iexact Hpc
  iexact Ho

/-- The part of a later step up to its departure. -/
theorem step_late (l : Fin 8) (r m : ℕ) (hm : r = 7 + m) (hr : r < 14) (hR : Above (2 + 2 * (8 * (r + 1) + l.val)) R) {k : Pr F} :
    iprop(Ctx I K ∗ Wires c l r ∗ Cp I c l m ∗ Ow c (debt' l (r + 1) r c + R))
      ⊢ iprop(((Free c l r ∗ anySlot c l (par (r + 1)) ∗ owns (c : Thread nD τ) (slotH l (par (r + 1 + 1))) fullShare.left (val I l (r + 1) c)
            ∗ Cp I c l (m + 1) ∗ Ow c (debt' l (r + 1) r c + R)) -∗ WP c k Q)
          -∗ WP c (recvWait l (r + 1) <| copyOut l (r + 1) c <| sendWait l (r + 1) <| pendWait l (r + 1) c k) Q) := by
  have hO := above_recv c l r hR
  have hv : val I l (r + 1) c = val I l r (up l c) := if_neg (by omega)
  iintro ⟨#HC, HW, HCp, Ho⟩ Hk
  iapply (arrive I K c l r (by omega) hO) $$ [HW Ho]
  · isplitr; · iexact HC
    isplitl [HW]; · iexact HW
    iexact Ho
  iintro ⟨HG, Hnew, Ho⟩
  rw [← hv]
  ihave Hh := (halves c l _ _) $$ Hnew
  icases Hh with ⟨Hnl, Hnr⟩
  iapply (copyNext I K c l (r + 1) m (by omega) (by omega)) $$ [HCp Hnr]
  · isplitr; · iexact HC
    isplitl [HCp]; · iexact HCp
    iexact Hnr
  iintro HCp
  iapply (leave I K c l r (by omega) (hO.mono (Nat.zero_le _))) $$ [HG Ho]
  · isplitr; · iexact HC
    isplitl [HG]; · iexact HG
    iexact Ho
  iintro ⟨HF, Hl, Ho⟩
  iapply (pendNext I K c l (r + 1) m (by omega) (by omega) (hO.mono (Nat.zero_le _))) $$ [HCp Ho]
  · isplitr; · iexact HC
    isplitl [HCp]; · iexact HCp
    iexact Ho
  iintro ⟨HCp, Hri, Ho⟩
  rw [← hm]
  iapply Hk
  isplitl [HF]; · iexact HF
  isplitl [Hl Hri]
  · iapply (join c l (par (r + 1)) (val I l r c))
    isplitl [Hl]; · iexact Hl
    iexact Hri
  isplitl [Hnl]; · iexact Hnl
  isplitl [HCp]; · iexact HCp
  iexact Ho

theorem step_pass (l : Fin 8) (r m : ℕ) (hm : r = 7 + m) (hr : r < 13) (hR : Above (2 + 2 * (8 * (r + 1) + l.val)) R) {k : Pr F} :
    iprop(Ctx I K ∗ Wires c l r ∗ Cp I c l m ∗ Ow c (debt' l (r + 1) r c + R))
      ⊢ iprop(((Wires c l (r + 1) ∗ Cp I c l (m + 1) ∗ Ow c (debt' l (r + 1 + 1) (r + 1) c + R)) -∗ WP c k Q)
          -∗ WP c (recvWait l (r + 1) <| copyOut l (r + 1) c <| sendWait l (r + 1) <| pendWait l (r + 1) c <| credit l c <| send l (r + 1) c k) Q) := by
  iintro ⟨#HC, HW, HCp, Ho⟩ Hk
  iapply (step_late I K c l r m hm (by omega) hR) $$ [HW HCp Ho]
  · isplitr; · iexact HC
    isplitl [HW]; · iexact HW
    isplitl [HCp]; · iexact HCp
    iexact Ho
  iintro ⟨HF, Hany, Hnl, HCp, Ho⟩
  iapply (depart I K c l r hr hR) $$ [HF Hany Hnl Ho]
  · isplitr; · iexact HC
    isplitl [HF]; · iexact HF
    isplitl [Hany]; · iexact Hany
    isplitl [Hnl]; · iexact Hnl
    iexact Ho
  iintro ⟨HW, Ho⟩
  iapply Hk
  isplitl [HW]; · iexact HW
  isplitl [HCp]; · iexact HCp
  iexact Ho

theorem step_end (l : Fin 8) (hR : Above (2 + 2 * (8 * (13 + 1) + l.val)) R) {k : Pr F} :
    iprop(Ctx I K ∗ Wires c l 13 ∗ Cp I c l 6 ∗ Ow c (debt' l (13 + 1) 13 c + R))
      ⊢ iprop(((Ended I c l ∗ Ow c (debt' l (13 + 1) 13 c + R)) -∗ WP c k Q)
          -∗ WP c (recvWait l (13 + 1) <| copyOut l (13 + 1) c <| sendWait l (13 + 1) <| pendWait l (13 + 1) c k) Q) := by
  iintro ⟨#HC, HW, HCp, Ho⟩ Hk
  iapply (step_late I K c l 13 6 rfl (by omega) hR) $$ [HW HCp Ho]
  · isplitr; · iexact HC
    isplitl [HW]; · iexact HW
    isplitl [HCp]; · iexact HCp
    iexact Ho
  iintro ⟨HF, Hany, Hnl, HCp, Ho⟩
  unfold Free Ended
  icases HF with ⟨Hr, -, -, Hs, -, Hc, -⟩
  iapply Hk
  isplitr [Ho]
  · isplitl [Hr]; · iexact Hr
    isplitl [Hs]; · iexact Hs
    isplitl [Hc]; · iexact Hc
    isplitl [Hany]; · iexact Hany
    isplitl [Hnl]; · iexact Hnl
    iexact HCp
  iexact Ho

/-- A step takes a lane to the next step. -/
theorem laneStep_spec (l : Fin 8) (s : ℕ) (hs : s < 15) (hR : Above (2 + 2 * (8 * s + l.val)) R) {k : Pr F} :
    iprop(Ctx I K ∗ (Lane I c l s ∗ pcAt I c l s) ∗ Ow c (debt l s c + R))
      ⊢ iprop((((Lane I c l (s + 1) ∗ anyPc c l) ∗ Ow c (debt l (s + 1) c + R)) -∗ WP c k Q) -∗ WP c (laneStep c s l k) Q) := by
  rcases s with _ | r
  · unfold laneStep Lane
    rw [if_pos rfl, if_pos rfl, if_neg (by decide), if_pos (by decide)]
    iintro ⟨#HC, ⟨HL, Hpc⟩, Ho⟩ Hk
    iapply (step_start I K c l) $$ [HL Ho]
    · isplitr; · iexact HC
      isplitl [HL]; · iexact HL
      iexact Ho
    iintro ⟨HL, Ho⟩
    iapply Hk
    isplitl [HL Hpc]
    · isplitl [HL]; · iexact HL
      iapply (pcAt_any I c l 0); iexact Hpc
    iexact Ho
  unfold laneStep
  rw [if_neg (Nat.succ_ne_zero r)]
  rcases Nat.lt_trichotomy r 6 with hr | rfl | hr
  · rw [if_pos (by omega)]
    unfold Lane pcAt
    rw [if_neg (Nat.succ_ne_zero r), if_pos (by omega), if_pos (by omega), if_neg (by omega), if_pos (by omega)]
    iintro ⟨#HC, ⟨HL, Hpc⟩, Ho⟩ Hk
    iapply (step_add I K c l r hr hR) $$ [HL Hpc Ho]
    · isplitr; · iexact HC
      isplitl [HL]; · iexact HL
      isplitl [Hpc]; · iexact Hpc
      iexact Ho
    iintro ⟨HL, Hpc, Ho⟩
    iapply Hk
    isplitl [HL Hpc]
    · isplitl [HL]; · iexact HL
      iexact Hpc
    iexact Ho
  · rw [if_neg (by omega), if_pos rfl]
    unfold Lane pcAt
    rw [if_neg (by omega), if_pos (by omega), if_pos (by omega), if_neg (by omega), if_neg (by omega), if_pos (by omega)]
    iintro ⟨#HC, ⟨HL, Hpc⟩, Ho⟩ Hk
    iapply (step_turn I K c l hR) $$ [HL Hpc Ho]
    · isplitr; · iexact HC
      isplitl [HL]; · iexact HL
      isplitl [Hpc]; · iexact Hpc
      iexact Ho
    iintro ⟨HW, HCp, Hpc, Ho⟩
    iapply Hk
    isplitl [HW HCp Hpc]
    · isplitl [HW HCp]
      · isplitl [HW]; · iexact HW
        iexact HCp
      iexact Hpc
    iexact Ho
  · rw [if_neg (by omega), if_neg (by omega)]
    obtain ⟨m, rfl⟩ : ∃ m, r = 7 + m := ⟨r - 7, by omega⟩
    have hpc := pcAt_any I c l (7 + m + 1)
    rcases Nat.lt_or_ge m 6 with hm | hm
    · rw [if_pos (by omega)]
      unfold Lane
      rw [if_neg (Nat.succ_ne_zero _), if_neg (by omega), if_pos (by omega), if_neg (Nat.succ_ne_zero _), if_neg (by omega), if_pos (by omega),
        show 7 + m + 1 - 8 = m from by omega, show 7 + m + 1 + 1 - 8 = m + 1 from by omega]
      iintro ⟨#HC, ⟨⟨HW, HCp⟩, Hpc⟩, Ho⟩ Hk
      iapply (step_pass I K c l (7 + m) m rfl (by omega) hR) $$ [HW HCp Ho]
      · isplitr; · iexact HC
        isplitl [HW]; · iexact HW
        isplitl [HCp]; · iexact HCp
        iexact Ho
      iintro ⟨HW, HCp, Ho⟩
      iapply Hk
      isplitl [HW HCp Hpc]
      · isplitl [HW HCp]
        · isplitl [HW]; · iexact HW
          iexact HCp
        iapply hpc; iexact Hpc
      iexact Ho
    · obtain rfl : m = 6 := by omega
      rw [if_neg (by decide)]
      unfold Lane
      rw [if_neg (by decide), if_neg (by decide), if_pos (by decide), if_neg (by decide), if_neg (by decide), if_neg (by decide)]
      rw [show debt l (7 + 6 + 1 + 1) c = debt' l (13 + 1) 13 c from by
        unfold debt debt'; rw [Finset.Ico_self, Finset.Ico_self, Finset.Ico_eq_empty (by decide), Finset.Ico_eq_empty (by decide)]]
      iintro ⟨#HC, ⟨⟨HW, HCp⟩, Hpc⟩, Ho⟩ Hk
      iapply (step_end I K c l hR) $$ [HW HCp Ho]
      · isplitr; · iexact HC
        isplitl [HW]; · iexact HW
        isplitl [HCp]; · iexact HCp
        iexact Ho
      iintro ⟨HL, Ho⟩
      iapply Hk
      isplitl [HL Hpc]
      · isplitl [HL]; · iexact HL
        iapply hpc; iexact Hpc
      iexact Ho

end Cert.KernelIdeal.Ring

end
-- ==== Proof.Body.lean ====
/-
The body of a device: the meeting of the neighbours, the steps, and the end.
-/
module

public import proofs.«01_k».proof.Proof.Lane

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Ck → ℕ)
variable (c : Dev nD) {Q : PUnit → sProp (𝕄 F)}

/-! ## All lanes, one after another -/

theorem bigSep_lanes (Φ : Fin 8 → sProp (𝕄 F)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What each lane does in turn, all of them do. -/
theorem fold_lanes (f : Fin 8 → Pr F → Pr F) (A B : Fin 8 → sProp (𝕄 F)) (S : ℕ → sProp (𝕄 F))
    (h : ∀ l k, iprop(A l ∗ S l.val) ⊢ iprop(((B l ∗ S (l.val + 1)) -∗ WP c k Q) -∗ WP c (f l k) Q)) (k : Pr F) :
    iprop((bigSep Finset.univ A) ∗ S 0) ⊢ iprop((((bigSep Finset.univ B) ∗ S 8) -∗ WP c k Q) -∗ WP c (lanes.foldr f k) Q) := by
  have h0 : ∀ k, iprop(A 0 ∗ S 0) ⊢ iprop(((B 0 ∗ S 1) -∗ WP c k Q) -∗ WP c (f 0 k) Q) := h 0
  have h1 : ∀ k, iprop(A 1 ∗ S 1) ⊢ iprop(((B 1 ∗ S 2) -∗ WP c k Q) -∗ WP c (f 1 k) Q) := h 1
  have h2 : ∀ k, iprop(A 2 ∗ S 2) ⊢ iprop(((B 2 ∗ S 3) -∗ WP c k Q) -∗ WP c (f 2 k) Q) := h 2
  have h3 : ∀ k, iprop(A 3 ∗ S 3) ⊢ iprop(((B 3 ∗ S 4) -∗ WP c k Q) -∗ WP c (f 3 k) Q) := h 3
  have h4 : ∀ k, iprop(A 4 ∗ S 4) ⊢ iprop(((B 4 ∗ S 5) -∗ WP c k Q) -∗ WP c (f 4 k) Q) := h 4
  have h5 : ∀ k, iprop(A 5 ∗ S 5) ⊢ iprop(((B 5 ∗ S 6) -∗ WP c k Q) -∗ WP c (f 5 k) Q) := h 5
  have h6 : ∀ k, iprop(A 6 ∗ S 6) ⊢ iprop(((B 6 ∗ S 7) -∗ WP c k Q) -∗ WP c (f 6 k) Q) := h 6
  have h7 : ∀ k, iprop(A 7 ∗ S 7) ⊢ iprop(((B 7 ∗ S 8) -∗ WP c k Q) -∗ WP c (f 7 k) Q) := h 7
  rw [bigSep_lanes, bigSep_lanes]
  unfold lanes
  simp only [List.foldr_cons, List.foldr_nil]
  iintro ⟨⟨H0, H1, H2, H3, H4, H5, H6, H7⟩, HS⟩ Hk
  iapply (h0 _) $$ [H0 HS]
  · isplitl [H0] <;> iassumption
  iintro ⟨H0, HS⟩
  iapply (h1 _) $$ [H1 HS]
  · isplitl [H1] <;> iassumption
  iintro ⟨H1, HS⟩
  iapply (h2 _) $$ [H2 HS]
  · isplitl [H2] <;> iassumption
  iintro ⟨H2, HS⟩
  iapply (h3 _) $$ [H3 HS]
  · isplitl [H3] <;> iassumption
  iintro ⟨H3, HS⟩
  iapply (h4 _) $$ [H4 HS]
  · isplitl [H4] <;> iassumption
  iintro ⟨H4, HS⟩
  iapply (h5 _) $$ [H5 HS]
  · isplitl [H5] <;> iassumption
  iintro ⟨H5, HS⟩
  iapply (h6 _) $$ [H6 HS]
  · isplitl [H6] <;> iassumption
  iintro ⟨H6, HS⟩
  iapply (h7 _) $$ [H7 HS]
  · isplitl [H7] <;> iassumption
  iintro ⟨H7, HS⟩
  iapply Hk
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HS

/-- What a device owes when the first `n` lanes have done step `s`. -/
def owed (s n : ℕ) : CellTallies nD τ sig ℕ := ∑ l : Fin 8, debt l (if l.val < n then s + 1 else s) c

/-- What it owes for the other lanes, during lane `l`'s step. -/
def others (s : ℕ) (l : Fin 8) : CellTallies nD τ sig ℕ := ∑ l' ∈ Finset.univ.erase l, debt l' (if l'.val < l.val then s + 1 else s) c

theorem owed_before (s : ℕ) (l : Fin 8) : owed c s l.val = debt l s c + others c s l := by
  unfold owed others
  rw [← Finset.add_sum_erase _ _ (Finset.mem_univ l), if_neg (Nat.lt_irrefl _)]

theorem owed_after (s : ℕ) (l : Fin 8) : owed c s (l.val + 1) = debt l (s + 1) c + others c s l := by
  unfold owed others
  rw [← Finset.add_sum_erase _ _ (Finset.mem_univ l), if_pos (Nat.lt_succ_self _)]
  refine congrArg _ (Finset.sum_congr rfl fun l' hl' => ?_)
  have hne : l'.val ≠ l.val := fun h => (Finset.mem_erase.mp hl').1 (Fin.ext h)
  by_cases h : l'.val < l.val
  · rw [if_pos h, if_pos (by omega)]
  · rw [if_neg h, if_neg (by omega)]

theorem owed_next (s : ℕ) : owed c s 8 = owed c (s + 1) 0 :=
  Finset.sum_congr rfl fun l _ => by rw [if_pos l.isLt, if_neg (Nat.not_lt_zero _)]

theorem owed_first : owed c 0 0 = ∑ l : Fin 8, debt l 0 c :=
  Finset.sum_congr rfl fun l _ => by rw [if_neg (Nat.not_lt_zero _)]

theorem owed_last : owed c 15 0 = 0 :=
  Finset.sum_eq_zero fun l _ => by
    rw [if_neg (Nat.not_lt_zero _)]
    unfold debt debt'
    rw [Finset.Ico_eq_empty (by decide), Finset.Ico_eq_empty (by decide), Finset.sum_empty, Finset.sum_empty, add_zero]

theorem others_above (s : ℕ) (l : Fin 8) : Above (2 + 2 * (8 * s + l.val)) (others c s l) :=
  Above.sum _ _ fun l' hl' => by
    have hne : l'.val ≠ l.val := fun h => (Finset.mem_erase.mp hl').1 (Fin.ext h)
    have h8 := l.isLt
    by_cases h : l'.val < l.val
    · rw [if_pos h]; exact debt'_above _ _ _ _ _ (by omega) (by omega)
    · rw [if_neg h]; exact debt'_above _ _ _ _ _ (by omega) (by omega)

/-! ## The arguments -/

variable (xM : Memref sig .tc .vmem S4096x512 .i8) (wM : Memref sig .tc .vmem S512x8192 .i8)
  (sxM swM : Memref sig .tc .smem S1 .f32)

/-- The two operands of the product, in a device's memory. -/
def Args : sProp (𝕄 F) := iprop(owns (c : Thread nD τ) xM fullShare (I.x c) ∗ owns (c : Thread nD τ) wM fullShare (I.w c))

theorem first_spec (l : Fin 8) {k : Pr F} :
    iprop(anySlot c l 1 ∗ Args I c xM wM)
      ⊢ iprop(((owns (c : Thread nD τ) (slotH l 1) fullShare (val I l 0 c) ∗ Args I c xM wM) -∗ WP c k Q)
          -∗ WP c (first xM wM (I.scale c) c l k) Q) := by
  unfold Args first
  iintro ⟨Hs, Hx, Hw⟩ Hk
  iapply (load_owns c xM (xR0 c) fullShare (I.x c)) $$ Hx
  iintro Hx
  iapply (load_owns c wM (wR l) fullShare (I.w c)) $$ Hw
  iintro Hw
  unfold anySlot
  icases Hs with ⟨%X, Hs⟩
  iapply (load_slot c l 1 fullShare X) $$ Hs
  iintro Hs
  iapply (store_slot c l 1) $$ [Hs]
  · unfold anySlot; iexists X; iexact Hs
  iintro Hs
  iapply Hk
  isplitl [Hs]
  · rw [shapeCast_shapeCast]; iexact Hs
  isplitl [Hx]; · iexact Hx
  iexact Hw

theorem prep_spec (l : Fin 8) (s : ℕ) (hs : s < 7) {k : Pr F} :
    iprop(anyPc c l ∗ Args I c xM wM)
      ⊢ iprop(((pcAt I c l (s + 1) ∗ Args I c xM wM) -∗ WP c k Q) -∗ WP c (prep xM wM (I.scale c) c s l k) Q) := by
  unfold Args prep pcAt
  rw [if_pos (by omega)]
  iintro ⟨Hs, Hx, Hw⟩ Hk
  iapply (load_owns c xM (xR l c _) fullShare (I.x c)) $$ Hx
  iintro Hx
  iapply (load_owns c wM (wR l) fullShare (I.w c)) $$ Hw
  iintro Hw
  unfold anyPc
  icases Hs with ⟨%X, Hs⟩
  iapply (load_pc c l X) $$ Hs
  iintro Hs
  iapply (store_pc c l) $$ [Hs]
  · unfold anyPc; iexists X; iexact Hs
  iintro Hs
  iapply Hk
  isplitl [Hs]
  · rw [shapeCast_self]; iexact Hs
  isplitl [Hx]; · iexact Hx
  iexact Hw

/-! ## The steps -/

/-- What a device holds before step `s`. -/
def Held (s : ℕ) : sProp (𝕄 F) :=
  iprop((bigSep Finset.univ fun l => iprop(Lane I c l s ∗ pcAt I c l s)) ∗ Args I c xM wM ∗ Ow c (owed c s 0))

theorem step_spec (s : ℕ) (hs : s < 15) {k : Pr F} :
    iprop(Ctx I K ∗ Held I c xM wM s)
      ⊢ iprop((Held I c xM wM (s + 1) -∗ WP c k Q) -∗ WP c (step xM wM (I.scale c) c s k) Q) := by
  unfold Held step
  iintro ⟨#HC, HL, HA, Ho⟩ Hk
  iapply (fold_lanes c (laneStep c s) (fun l => iprop(Lane I c l s ∗ pcAt I c l s)) (fun l => iprop(Lane I c l (s + 1) ∗ anyPc c l))
    (fun n => iprop(Ctx I K ∗ Ow c (owed c s n))) (fun l k => by
      rw [owed_before, owed_after]
      iintro ⟨HL, #HC, Ho⟩ Hk
      iapply (laneStep_spec I K c l s hs (others_above c s l)) $$ [HL Ho]
      · isplitr; · iexact HC
        isplitl [HL]; · iexact HL
        iexact Ho
      iintro ⟨HL, Ho⟩
      iapply Hk
      isplitl [HL]; · iexact HL
      isplitr; · iexact HC
      iexact Ho) _) $$ [HL Ho]
  · isplitl [HL]; · iexact HL
    isplitr; · iexact HC
    iexact Ho
  rw [owed_next]
  by_cases h7 : s < 7
  · rw [if_pos h7]
    iintro ⟨HL, -, Ho⟩
    iapply (fold_lanes c (prep xM wM (I.scale c) c s) (fun l => iprop(Lane I c l (s + 1) ∗ anyPc c l)) (fun l => iprop(Lane I c l (s + 1) ∗ pcAt I c l (s + 1)))
      (fun _ => Args I c xM wM) (fun l k => by
        iintro ⟨⟨HL, Hp⟩, HA⟩ Hk
        iapply (prep_spec I c xM wM l s h7) $$ [Hp HA]
        · isplitl [Hp]; · iexact Hp
          iexact HA
        iintro ⟨Hp, HA⟩
        iapply Hk
        isplitr [HA]
        · isplitl [HL]; · iexact HL
          iexact Hp
        iexact HA) _) $$ [HL HA]
    · isplitl [HL]; · iexact HL
      iexact HA
    iintro ⟨HL, HA⟩
    iapply Hk
    isplitl [HL]; · iexact HL
    isplitl [HA]; · iexact HA
    iexact Ho
  · rw [if_neg h7]
    iintro ⟨HL, -, Ho⟩
    iapply Hk
    isplitl [HL]
    · rw [show (fun l => iprop(Lane I c l (s + 1) ∗ pcAt I c l (s + 1))) = fun l => iprop(Lane I c l (s + 1) ∗ anyPc c l) from funext fun l => by
        unfold pcAt; rw [if_neg (by omega)]]
      iexact HL
    isplitl [HA]; · iexact HA
    iexact Ho

theorem steps_spec (n : ℕ) : ∀ (s : ℕ) (_ : s + n ≤ 15) {k : Pr F},
    iprop(Ctx I K ∗ Held I c xM wM s)
      ⊢ iprop((Held I c xM wM (s + n) -∗ WP c k Q) -∗ WP c (steps xM wM (I.scale c) c n s k) Q) := by
  induction n with
  | zero =>
    intro s _ k
    unfold steps
    iintro ⟨-, H⟩ Hk
    iapply Hk; iexact H
  | succ n ih =>
    intro s hs k
    unfold steps
    iintro ⟨#HC, H⟩ Hk
    iapply (step_spec I K c xM wM s (by omega)) $$ [H]
    · isplitr; · iexact HC
      iexact H
    iintro H
    iapply (ih (s + 1) (by omega)) $$ [H]
    · isplitr; · iexact HC
      iexact H
    rw [show s + 1 + n = s + (n + 1) from by omega]
    iexact Hk

/-! ## The end -/

/-- What is left of a lane when its device is done. -/
def Over (l : Fin 8) : sProp (𝕄 F) :=
  iprop((atPos ER (cell c (sendC l)) 14 ∅ 0 ∗ atPos ER (cell c (recvC l)) 14 ∅ 0 ∗ atPos ER (cell c (credC l)) 13 ∅ 0
      ∗ atPos ER (cell c (copyC l 0)) 4 ∅ 0 ∗ atPos ER (cell c (copyC l 1)) 4 ∅ 0)
    ∗ anySlot c l 0 ∗ anySlot c l 1 ∗ anyPc c l ∗ Done I c l 8)

theorem last_spec (l : Fin 8) {k : Pr F} :
    iprop(Ctx I K ∗ (Lane I c l 15 ∗ pcAt I c l 15) ∗ Ow c 0)
      ⊢ iprop(((Over I c l ∗ Ow c 0) -∗ WP c k Q) -∗ WP c (pendWait l 15 c k) Q) := by
  unfold Lane Ended Over
  rw [if_neg (by decide), if_neg (by decide), if_neg (by decide)]
  have hpc := pcAt_any I c l 15
  iintro ⟨#HC, ⟨⟨Hr, Hs, Hc, H0, H1, HCp⟩, Hpc⟩, Ho⟩ Hk
  iapply (pendLast I K c l (Above.zero 0)) $$ [HCp Ho]
  · isplitr; · iexact HC
    isplitl [HCp]; · iexact HCp
    iexact Ho
  iintro ⟨Hp, HD, H1', Ho⟩
  ihave Hp' := (Entails.of_eq (show (Pos c l 8 : sProp (𝕄 F)) = iprop(atPos ER (cell c (copyC l 0)) 4 ∅ 0 ∗ atPos ER (cell c (copyC l 1)) 4 ∅ 0) from rfl)) $$ Hp
  iapply Hk
  isplitr [Ho]
  · isplitl [Hr Hs Hc Hp']
    · isplitl [Hs]; · iexact Hs
      isplitl [Hr]; · iexact Hr
      isplitl [Hc]; · iexact Hc
      iexact Hp'
    isplitl [H0]; · iexact H0
    isplitl [H1 H1']
    · iapply (join c l 1 (val I l 14 c))
      isplitl [H1]; · iexact H1
      iexact H1'
    isplitl [Hpc]; · iapply hpc; iexact Hpc
    iexact HD
  iexact Ho

/-- A semaphore whose rounds are all over is at zero. -/
theorem close_cell (k : Ck) : iprop(Ctx I K ∗ atPos ER (cell c k) (rounds k) ∅ 0) ⊢ (|={Set.univ}=> semVal (cell c k) 0 : sProp (𝕄 F)) := by
  iintro ⟨#HC, Hat⟩
  iapply (Rounds.cell_close ER (ringRd I) (g := cell c k) (Set.mem_univ (K (c, k))) (fun h => h) (R := rounds k) (fun r hr => duties_later I c k r hr))
  isplitr; · iapply (Ctx_inv I K c k); iexact HC
  iexact Hat

/-- What a device is left with. -/
def Final : sProp (𝕄 F) :=
  iprop((bigSep Finset.univ fun l => iprop(anySlot c l 0 ∗ anySlot c l 1 ∗ anyPc c l ∗ Done I c l 8))
    ∗ (bigSep Finset.univ fun x : Fin 5 × Fin 8 => semVal (cell c (.inr x)) 0) ∗ semVal (cell c barC) 0)

theorem bigSep_own (Φ : Fin 5 × Fin 8 → sProp (𝕄 F)) :
    bigSep Finset.univ Φ = bigSep Finset.univ fun l : Fin 8 => iprop(Φ (0, l) ∗ Φ (1, l) ∗ Φ (2, l) ∗ Φ (3, l) ∗ Φ (4, l)) := by
  rw [bigSep_univ_prod, bigSep_univ_eq_bigSepL [0, 1, 2, 3, 4] (by decide) (by decide)]
  simp only [bigSep_sep']
  rfl

theorem bigSep_three (A B C : Fin 8 → sProp (𝕄 F)) :
    (bigSep Finset.univ fun l => iprop(A l ∗ B l ∗ C l)) = iprop((bigSep Finset.univ A) ∗ (bigSep Finset.univ B) ∗ bigSep Finset.univ C) := by
  rw [bigSep_sep', bigSep_sep']

theorem bigSep_with {α : Type} [DecidableEq α] {S : Finset α} {R : sProp (𝕄 F)} [BI.Persistent R] {Φ Ψ : α → sProp (𝕄 F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all :
    iprop(Ctx I K ∗ (bigSep Finset.univ fun l => Over I c l) ∗ atPos ER (cell c barC) 1 ∅ 0) ⊢ (|={Set.univ}=> Final I c : sProp (𝕄 F)) := by
  unfold Final
  rw [show (bigSep Finset.univ fun l => Over I c l)
      = iprop((bigSep Finset.univ fun x : Fin 5 × Fin 8 => atPos ER (cell c (.inr x)) (rounds (.inr x)) ∅ 0)
          ∗ (bigSep Finset.univ fun l => iprop(anySlot c l 0 ∗ anySlot c l 1 ∗ anyPc c l ∗ Done I c l 8))) from by
    rw [bigSep_own]; unfold Over; rw [bigSep_sep']; rfl]
  iintro ⟨#HC, ⟨Hat, HL⟩, Hb⟩
  imod ((bigSep_with (S := Finset.univ) (R := Ctx I K) (Φ := fun x : Fin 5 × Fin 8 => atPos ER (cell c (.inr x)) (rounds (.inr x)) ∅ 0)
    (Ψ := fun x => iprop(|={Set.univ}=> semVal (cell c (.inr x)) 0)) fun x _ => close_cell I K c (.inr x)).trans (bigSep_fupd _ _)) $$ [Hat] with Hz
  · isplitr; · iexact HC
    iexact Hat
  imod (close_cell I K c barC) $$ [Hb] with Hzb
  · isplitr; · iexact HC
    iexact Hb
  imodintro
  isplitl [HL]; · iexact HL
  isplitl [Hz]; · iexact Hz
  iexact Hzb

/-! ## The meeting of the neighbours -/

/-- That every semaphore is at its first round. -/
def Marks : sProp (𝕄 F) := bigSep Finset.univ fun ck : Dev nD × Ck => reached ER (cell ck.1 ck.2) 0

instance Marks_persistent : BI.Persistent (Marks (F := F)) := by unfold Marks; infer_instance

theorem mark (d : Dev nD) (k : Ck) : (Marks : sProp (𝕄 F)) ⊢ reached ER (cell d k) 0 := by
  unfold Marks
  exact bigSep_elim (Φ := fun ck : Dev nD × Ck => (reached ER (cell ck.1 ck.2) 0 : sProp (𝕄 F))) (Finset.mem_univ (d, k))

/-- The turn to meet the neighbours. -/
def Meet : sProp (𝕄 F) :=
  iprop(dutyTok ER (cell (lft c) barC) 0 true ∗ dutyTok ER (cell (rgt c) barC) 0 false
    ∗ cred (tallyAt (cell c barC) 0 2) ∗ atPos ER (cell c barC) 0 ∅ 0)

theorem bigSep_two (Φ : Fin 8 → sProp (𝕄 F)) :
    bigSep Finset.univ Φ = iprop((bigSep (Finset.univ.filter fun l : Fin 8 => decide (l.val % 2 = 0) = true) Φ)
      ∗ bigSep (Finset.univ.filter fun l : Fin 8 => decide (l.val % 2 = 0) = false) Φ) := by
  rw [show (Finset.univ.filter fun l : Fin 8 => decide (l.val % 2 = 0) = false) = Finset.univ.filter fun l : Fin 8 => ¬ decide (l.val % 2 = 0) = true from by decide]
  exact bigSep_filter_split Finset.univ (fun l : Fin 8 => decide (l.val % 2 = 0) = true)

theorem pay_bar (b : Bool) : pay I barC c 0 b
    = bigSep (Finset.univ.filter fun l : Fin 8 => decide (l.val % 2 = 0) = b) fun l => iprop(anySlot (dn l c) l 0 ∗ reached ER (cell (dn l c) (recvC l)) 0) := rfl

theorem pay_bar_true : pay I barC (lft c) 0 true
    = bigSep (Finset.univ.filter fun l : Fin 8 => decide (l.val % 2 = 0) = true) fun l => iprop(anySlot c l 0 ∗ reached ER (cell c (recvC l)) 0) := by
  show bigSep _ _ = _
  refine bigSep_congr fun l hl => ?_
  have h : l.val % 2 = 0 := of_decide_eq_true (Finset.mem_filter.mp hl).2
  rw [show dn l (lft c) = c from by unfold dn; rw [if_pos h, rgt_lft]]

theorem pay_bar_false : pay I barC (rgt c) 0 false
    = bigSep (Finset.univ.filter fun l : Fin 8 => decide (l.val % 2 = 0) = false) fun l => iprop(anySlot c l 0 ∗ reached ER (cell c (recvC l)) 0) := by
  show bigSep _ _ = _
  refine bigSep_congr fun l hl => ?_
  have h : ¬ l.val % 2 = 0 := of_decide_eq_false (Finset.mem_filter.mp hl).2
  rw [show dn l (rgt c) = c from by unfold dn; rw [if_neg h, lft_rgt]]

/-- What a device owes at the start. -/
def O₀ : CellTallies nD τ sig ℕ :=
  (∑ l : Fin 8, debt l 0 c) + tallyAt (cell (rgt c) barC) 0 1 + tallyAt (cell (lft c) barC) 0 1

theorem first_above : Above 1 (∑ l : Fin 8, debt l 0 c) :=
  Above.sum _ _ fun l _ => debt'_above _ _ _ _ _ (by omega) (by omega)

theorem meet_spec {k : Pr F} :
    iprop(Ctx I K ∗ Marks ∗ Meet c ∗ (bigSep Finset.univ fun l : Fin 8 => anySlot c l 0) ∗ Ow c (O₀ c))
      ⊢ iprop(((atPos ER (cell c barC) 1 ∅ 0
            ∗ (bigSep Finset.univ fun l : Fin 8 => iprop(anySlot (dn l c) l 0 ∗ reached ER (cell (dn l c) (recvC l)) 0)) ∗ Ow c (owed c 0 0)) -∗ WP c k Q)
          -∗ WP c (.op (.semSignal (lft c, .tc) barS 1) fun _ => .op (.semSignal (rgt c, .tc) barS 1) fun _ => .op (.semWait barS 2) fun _ => k) Q) := by
  unfold Meet Ow O₀
  rw [owed_first]
  iintro ⟨#HC, #HM, ⟨Ht, Hf, Hcr, Hat⟩, HS, ⟨%W, HO⟩⟩ Hk
  ihave HS' := (bigSep_with (S := Finset.univ) (R := Marks) (Φ := fun l : Fin 8 => anySlot c l 0)
    (Ψ := fun l : Fin 8 => iprop(anySlot c l 0 ∗ reached ER (cell c (recvC l)) 0)) (fun l _ => by
      iintro ⟨#HM, H⟩
      isplitl [H]; · iexact H
      iapply (mark c (recvC l)); iexact HM)) $$ [HS]
  · isplitr; · iexact HM
    iexact HS
  ihave HS2 := (Entails.of_eq (bigSep_two _)) $$ HS'
  icases HS2 with ⟨HSt, HSf⟩
  iapply (Rounds.wp_signal 𝒱₀ ER (ringRd I) (c : Thread nD τ) none (dst := (lft c : Thread nD τ)) (sem := barS) (k' := 1) (κ := K (lft c, barC)) (r := 0) (d := true)
      (O₀ := (∑ l : Fin 8, debt l 0 c) + tallyAt (cell (rgt c) barC) 0 1 + tallyAt (cell (lft c) barC) 0 1)
      (by rw [show ((lft c : Thread nD τ), SemLoc.reg barS) = cell (lft c) barC from rfl, duties_cell I _ _ _ (by decide)]; exact Finset.mem_univ _)
      (amount_cell I (lft c) barC 0 true) 0 ((∑ l : Fin 8, debt l 0 c) + tallyAt (cell (rgt c) barC) 0 1) rfl) $$ [HO Ht HSt]
  · isplitr; · iapply (Ctx_inv I K (lft c) barC); iexact HC
    isplitl [HO]; · iexact HO
    isplitl [Ht]; · iexact Ht
    isplitl [HSt]
    · rw [show ((lft c : Thread nD τ), SemLoc.reg barS) = cell (lft c) barC from rfl, payload_cell, pay_bar_true]
      iexact HSt
    iapply (mark (lft c) barC); iexact HM
  iintro HO
  iapply (Rounds.wp_signal 𝒱₀ ER (ringRd I) (c : Thread nD τ) none (dst := (rgt c : Thread nD τ)) (sem := barS) (k' := 1) (κ := K (rgt c, barC)) (r := 0) (d := false)
      (O₀ := (∑ l : Fin 8, debt l 0 c) + tallyAt (cell (rgt c) barC) 0 1)
      (by rw [show ((rgt c : Thread nD τ), SemLoc.reg barS) = cell (rgt c) barC from rfl, duties_cell I _ _ _ (by decide)]; exact Finset.mem_univ _)
      (amount_cell I (rgt c) barC 0 false) 0 (∑ l : Fin 8, debt l 0 c) rfl) $$ [HO Hf HSf]
  · isplitr; · iapply (Ctx_inv I K (rgt c) barC); iexact HC
    isplitl [HO]; · iexact HO
    isplitl [Hf]; · iexact Hf
    isplitl [HSf]
    · rw [show ((rgt c : Thread nD τ), SemLoc.reg barS) = cell (rgt c) barC from rfl, payload_cell, pay_bar_false]
      iexact HSf
    iapply (mark (rgt c) barC); iexact HM
  iintro HO
  iapply (Rounds.wp_wait_rest_token 𝒱₀ ER (ringRd I) (c : Thread nD τ) none (κ := K (c, barC)) (wpE_semWait_eq 𝒱₀ (c : Thread nD τ) none Set.univ) (Set.mem_univ _) 0
      (O := ∑ l : Fin 8, debt l 0 c) (W := W) (R := 0) (m := 0) (T := ∅) (by rw [Nat.zero_add]; exact (expect_bar I c).symm)) $$ [Hcr Hat HO]
  · isplitr; · iapply (Ctx_inv I K c barC); iexact HC
    isplitl [Hcr]; · iexact Hcr
    isplitl [HO]; · iexact HO
    isplitr
    · iapply (mayWait c barC 0 1 (by decide) (by rw [lv_cell]) (first_above c)); iapply (Ctx_lev I K); iexact HC
    iexact Hat
  iintro ⟨HO, Hat, -, Hpay⟩
  ihave Hp := (Entails.of_eq (show bigSep ((ringRd I).duties ((c : Thread nD τ), SemLoc.reg barS) 0 \ ∅)
    (fun d => (ringRd I).payload ((c : Thread nD τ), SemLoc.reg barS) 0 d) = iprop(pay I barC c 0 false ∗ pay I barC c 0 true) from rest_bar I c)) $$ Hpay
  icases Hp with ⟨Hpf, Hpt⟩
  ihave Hpf := (Entails.of_eq (pay_bar I c false)) $$ Hpf
  ihave Hpt := (Entails.of_eq (pay_bar I c true)) $$ Hpt
  iapply Hk
  isplitl [Hat]; · iexact Hat
  isplitl [Hpf Hpt]
  · rw [bigSep_two]
    isplitl [Hpt]; · iexact Hpt
    iexact Hpf
  iexists _; iexact HO

/-! ## The whole -/

/-- What a lane starts from. -/
def Begin (l : Fin 8) : sProp (𝕄 F) :=
  iprop(atPos ER (cell c (recvC l)) 0 ∅ 0 ∗ atPos ER (cell c (sendC l)) 0 ∅ 0 ∗ atPos ER (cell c (credC l)) 0 ∅ 0
    ∗ RC c l 0 ∗ CT c l 0 ∗ RT c l 0 ∗ Pos c l 0 ∗ OT c l 0 ∗ anyPc c l)

/-- The scales, in a device's memory. -/
def Scales : sProp (𝕄 F) := iprop(owns (c : Thread nD τ) sxM fullShare (I.sx c) ∗ owns (c : Thread nD τ) swM fullShare (I.sw c))

theorem s1_emb (j : S1.Idx) : (Rect.unit (s := S1) ![0] S1.size inb_S1_S1_0).emb j = j := by
  refine funext fun a => Fin.ext ?_
  rw [Rect.emb_apply]
  show (![0] : Fin 1 → ℕ) a + 1 * (j a).val = (j a).val
  rw [Nat.one_mul, show (![0] : Fin 1 → ℕ) a = 0 from by fin_cases a; rfl, Nat.zero_add]

theorem lane_begin (l : Fin 8) :
    iprop(Marks ∗ Begin c l ∗ owns (c : Thread nD τ) (slotH l 1) fullShare (val I l 0 c)
        ∗ anySlot (dn l c) l 0 ∗ reached ER (cell (dn l c) (recvC l)) 0)
      ⊢ iprop(Lane I c l 0 ∗ pcAt I c l 0) := by
  unfold Lane pcAt Start Cp0 Begin
  rw [if_pos rfl, if_neg (by decide)]
  iintro ⟨#HM, ⟨Hr, Hs, Hc, HRC, HCT, HRT, HP, HOT, Hpc⟩, Hsl, Hdn, Hrd⟩
  isplitr [Hpc]
  · isplitl [Hr]; · iexact Hr
    isplitl [Hs]; · iexact Hs
    isplitl [Hc]; · iexact Hc
    isplitr; · iapply (mark c (sendC l)); iexact HM
    isplitr; · iapply (mark c (credC l)); iexact HM
    isplitl [Hrd]; · iexact Hrd
    isplitl [HRC]; · iexact HRC
    isplitl [HCT]; · iexact HCT
    isplitl [HRT]; · iexact HRT
    isplitl [Hdn]; · iexact Hdn
    isplitl [Hsl]; · iexact Hsl
    isplitl [HP]; · iexact HP
    isplitr; · iapply (mark c (copyC l (par 0))); iexact HM
    isplitr; · iapply (mark c (copyC l (par (0 + 1)))); iexact HM
    iexact HOT
  iexact Hpc

/-- The body runs, and leaves every block of the result finished. -/
theorem clean_spec :
    iprop(Ctx I K ∗ Marks ∗ Meet c ∗ (bigSep Finset.univ fun l => Begin c l)
        ∗ (bigSep Finset.univ fun l : Fin 8 => anySlot c l 0) ∗ (bigSep Finset.univ fun l : Fin 8 => anySlot c l 1)
        ∗ Args I c xM wM ∗ Scales I c sxM swM ∗ Ow c (O₀ c))
      ⊢ iprop(((Final I c ∗ Args I c xM wM ∗ Scales I c sxM swM ∗ Ow c 0) -∗ Q ⟨⟩) -∗ WP c (clean xM wM sxM swM) Q) := by
  unfold clean Scales
  simp only [wp_deviceId]
  iintro ⟨#HC, #HM, Hmeet, HB, H0, H1, HA, ⟨Hsx, Hsw⟩, Ho⟩ Hk
  iapply (meet_spec I K c) $$ [Hmeet H0 Ho]
  · isplitr; · iexact HC
    isplitr; · iexact HM
    isplitl [Hmeet]; · iexact Hmeet
    isplitl [H0]; · iexact H0
    iexact Ho
  iintro ⟨Hbar, Hdn, Ho⟩
  iapply (load_owns c sxM (Rect.unit (s := S1) ![0] S1.size inb_S1_S1_0) fullShare (I.sx c)) $$ Hsx
  iintro Hsx
  iapply (load_owns c swM (Rect.unit (s := S1) ![0] S1.size inb_S1_S1_0) fullShare (I.sw c)) $$ Hsw
  iintro Hsw
  dsimp only
  rw [s1_emb]
  rw [show Scalar.mulf (I.sx c (Shape.Idx.first (numel1_S1.symm ▸ Nat.one_pos))) (I.sw c (Shape.Idx.first (numel1_S1.symm ▸ Nat.one_pos))) = I.scale c from rfl]
  iapply (fold_lanes c (first xM wM (I.scale c) c) (fun l => anySlot c l 1) (fun l => owns (c : Thread nD τ) (slotH l 1) fullShare (val I l 0 c))
    (fun _ => Args I c xM wM) (fun l k => first_spec I c xM wM l) _) $$ [H1 HA]
  · isplitl [H1]; · iexact H1
    iexact HA
  iintro ⟨H1, HA⟩
  ihave HL := (bigSep_with (S := Finset.univ) (R := Marks)
    (Φ := fun l : Fin 8 => iprop(Begin c l ∗ owns (c : Thread nD τ) (slotH l 1) fullShare (val I l 0 c)
        ∗ anySlot (dn l c) l 0 ∗ reached ER (cell (dn l c) (recvC l)) 0))
    (Ψ := fun l : Fin 8 => iprop(Lane I c l 0 ∗ pcAt I c l 0)) (fun l _ => lane_begin I c l)) $$ [HB H1 Hdn]
  · isplitr; · iexact HM
    rw [bigSep_three (fun l => Begin c l) (fun l => owns (c : Thread nD τ) (slotH l 1) fullShare (val I l 0 c))
      (fun l => iprop(anySlot (dn l c) l 0 ∗ reached ER (cell (dn l c) (recvC l)) 0))]
    isplitl [HB]; · iexact HB
    isplitl [H1]; · iexact H1
    iexact Hdn
  iapply (steps_spec I K c xM wM 15 0 (by decide)) $$ [HL HA Ho]
  · isplitr; · iexact HC
    unfold Held
    isplitl [HL]; · iexact HL
    isplitl [HA]; · iexact HA
    iexact Ho
  unfold Held
  rw [show 0 + 15 = 15 from rfl, owed_last]
  iintro ⟨HL, HA, Ho⟩
  iapply (fold_lanes c (fun l k => pendWait l 15 c k) (fun l => iprop(Lane I c l 15 ∗ pcAt I c l 15)) (fun l => Over I c l)
    (fun _ => iprop(Ctx I K ∗ Ow c 0)) (fun l k => by
      iintro ⟨HL, #HC, Ho⟩ Hk
      iapply (last_spec I K c l) $$ [HL Ho]
      · isplitr; · iexact HC
        isplitl [HL]; · iexact HL
        iexact Ho
      iintro ⟨HL, Ho⟩
      iapply Hk
      isplitl [HL]; · iexact HL
      isplitr; · iexact HC
      iexact Ho) _) $$ [HL Ho]
  · isplitl [HL]; · iexact HL
    isplitr; · iexact HC
    iexact Ho
  iintro ⟨HL, -, Ho⟩
  imod (close_all I K c) $$ [HL Hbar] with HF
  · isplitr; · iexact HC
    isplitl [HL]; · iexact HL
    iexact Hbar
  rw [wp_ret]; imodintro
  iapply Hk
  isplitl [HF]; · iexact HF
  isplitl [HA]; · iexact HA
  isplitl [Hsx Hsw]
  · isplitl [Hsx]; · iexact Hsx
    iexact Hsw
  iexact Ho

end Cert.KernelIdeal.Ring

end
-- ==== Proof.Deal.lean ====
/-
What the devices are dealt before they start.

Every semaphore starts at its first round; the turns to contribute to a round are handed to the device
that contributes, which for the arrivals and the credit is a neighbour of the one that owns the
semaphore; and every device is given, for all that the others owe it, what allows to wait for that.
-/
module

public import proofs.«01_k».proof.Proof.Body

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Ck → ℕ) (c : Dev nD)

/-! ## The semaphores and the turns -/

/-- All the semaphores. -/
def ringCells : Finset (GSem nD τ sig) :=
  Finset.univ.map ⟨fun ck : Dev nD × Ck => cell ck.1 ck.2, fun a b h => Prod.ext (cell_inj h).1 (cell_inj h).2⟩

/-- A turn: which semaphore of a device, and which round. -/
abbrev Turn := Bool ⊕ ((Fin 5 × Fin 8) × Fin 14)

/-- The turn as the schedule names it. -/
def turn (a : Dev nD × Turn) : GSem nD τ sig × ℕ × Bool :=
  match a.2 with
  | .inl b => (cell a.1 barC, 0, b)
  | .inr (x, r) => (cell a.1 (.inr x), r.val, false)

theorem turn_injective : Function.Injective turn := by
  rintro ⟨c, t⟩ ⟨c', t'⟩ h
  have h1 := congrArg (fun x : GSem nD τ sig × ℕ × Bool => x.1) h
  have h2 := congrArg (fun x : GSem nD τ sig × ℕ × Bool => x.2.1) h
  have h3 := congrArg (fun x : GSem nD τ sig × ℕ × Bool => x.2.2) h
  rcases t with b | ⟨x, r⟩ <;> rcases t' with b' | ⟨x', r'⟩
  · obtain ⟨rfl, -⟩ := cell_inj h1
    obtain rfl : b = b' := h3
    rfl
  · exact absurd (cell_inj h1).2 (fun h => by cases h)
  · exact absurd (cell_inj h1).2 (fun h => by cases h)
  · obtain ⟨rfl, hx⟩ := cell_inj h1
    obtain rfl := Sum.inr.inj hx
    obtain rfl : r = r' := Fin.ext h2
    rfl

/-- All the turns. -/
def ringToks : Finset (GSem nD τ sig × ℕ × Bool) := Finset.univ.map ⟨turn, turn_injective⟩

/-- The turns at one of a lane's semaphores. -/
def T (x : Fin 5 × Fin 8) : sProp (𝕄 F) := bigSep Finset.univ fun r : Fin 14 => dutyTok ER (cell c (.inr x)) r.val false

/-- The turns at a device's semaphores. -/
def Toks : sProp (𝕄 F) :=
  iprop((bigSep Finset.univ fun b : Bool => dutyTok ER (cell c barC) 0 b) ∗ bigSep Finset.univ fun x : Fin 5 × Fin 8 => T c x)

/-- The turns a device takes. -/
def PayToks : sProp (𝕄 F) :=
  iprop((dutyTok ER (cell (lft c) barC) 0 true ∗ dutyTok ER (cell (rgt c) barC) 0 false)
    ∗ bigSep Finset.univ fun l : Fin 8 => iprop(T c (0, l) ∗ T (dn l c) (1, l) ∗ T (up l c) (2, l) ∗ T c (3, l) ∗ T c (4, l)))

/-- One device on, in a lane's direction. -/
def dnE (l : Fin 8) : Dev nD ≃ Dev nD := ⟨dn l, up l, up_dn l, dn_up l⟩
/-- One device on, by position. -/
def rgtE : Dev nD ≃ Dev nD := ⟨rgt, lft, lft_rgt, rgt_lft⟩

theorem bigSep_bool (Φ : Bool → sProp (𝕄 F)) : bigSep Finset.univ Φ = iprop(Φ true ∗ Φ false) :=
  bigSep_univ_eq_bigSepL [true, false] (by decide) (by decide) Φ

theorem lane_around (l : Fin 8) :
    (bigSep Finset.univ fun c : Dev nD => iprop(T c (0, l) ∗ T c (1, l) ∗ T c (2, l) ∗ T c (3, l) ∗ T c (4, l)) : sProp (𝕄 F))
      = bigSep Finset.univ fun c : Dev nD => iprop(T c (0, l) ∗ T (dn l c) (1, l) ∗ T (up l c) (2, l) ∗ T c (3, l) ∗ T c (4, l)) := by
  rw [bigSep_sep', bigSep_sep', bigSep_sep', bigSep_sep', bigSep_sep', bigSep_sep', bigSep_sep', bigSep_sep',
    bigSep_univ_equiv (dnE l) (fun c : Dev nD => (T c (1, l) : sProp (𝕄 F))),
    bigSep_univ_equiv (dnE l).symm (fun c : Dev nD => (T c (2, l) : sProp (𝕄 F)))]
  rfl

theorem lanes_around :
    (bigSep Finset.univ fun c : Dev nD => bigSep Finset.univ fun l : Fin 8 => iprop(T c (0, l) ∗ T c (1, l) ∗ T c (2, l) ∗ T c (3, l) ∗ T c (4, l)) : sProp (𝕄 F))
      = bigSep Finset.univ fun c : Dev nD => bigSep Finset.univ fun l : Fin 8 => iprop(T c (0, l) ∗ T (dn l c) (1, l) ∗ T (up l c) (2, l) ∗ T c (3, l) ∗ T c (4, l)) := by
  rw [bigSep_univ_comm (fun (c : Dev nD) (l : Fin 8) => (iprop(T c (0, l) ∗ T c (1, l) ∗ T c (2, l) ∗ T c (3, l) ∗ T c (4, l)) : sProp (𝕄 F))),
    bigSep_univ_comm (fun (c : Dev nD) (l : Fin 8) => (iprop(T c (0, l) ∗ T (dn l c) (1, l) ∗ T (up l c) (2, l) ∗ T c (3, l) ∗ T c (4, l)) : sProp (𝕄 F)))]
  exact bigSep_congr fun l _ => lane_around l

theorem bigSep_ck (Φ : Ck → sProp (𝕄 F)) : bigSep Finset.univ Φ = iprop(Φ barC ∗ bigSep Finset.univ fun x : Fin 5 × Fin 8 => Φ (.inr x)) := by
  rw [bigSep_univ_sum, bigSep_univ_eq_bigSepL [()] (by decide) (by decide), bigSepL_singleton]
  rfl

/-- The turns are dealt around the ring. -/
theorem toks_around : (bigSep Finset.univ fun c : Dev nD => (Toks c : sProp (𝕄 F))) ⊢ bigSep Finset.univ fun c : Dev nD => PayToks c := by
  unfold Toks PayToks
  simp only [bigSep_bool, bigSep_own]
  rw [bigSep_sep', bigSep_sep', bigSep_sep', bigSep_sep', lanes_around,
    bigSep_univ_equiv rgtE.symm (fun c : Dev nD => (dutyTok ER (cell c barC) 0 true : sProp (𝕄 F))),
    bigSep_univ_equiv rgtE (fun c : Dev nD => (dutyTok ER (cell c barC) 0 false : sProp (𝕄 F)))]
  exact Entails.of_eq rfl

/-! ## The semaphores' rules -/

/-- The semaphores' rules, known to all. -/
def Invs : sProp (𝕄 F) := bigSep Finset.univ fun ck : Dev nD × Ck => cellInv ER (ringRd I) (K ck) (cell ck.1 ck.2)

instance Invs_persistent : BI.Persistent (Invs I K) := by unfold Invs; infer_instance

/-- Where a device stands at its semaphores, at the start. -/
def Stands : sProp (𝕄 F) := bigSep Finset.univ fun k : Ck => atPos ER (cell c k) 0 ∅ 0

/-- What the launch deals a device. -/
def G : sProp (𝕄 F) :=
  iprop((bigSep Finset.univ fun k : Ck => roundState ER (ringRd I) (cell c k) 0)
    ∗ (bigSep Finset.univ fun k : Ck => iprop(atPos ER (cell c k) 0 ∅ 0 ∗ reached ER (cell c k) 0)) ∗ Toks c)

/-- What a device then has. -/
def G' : sProp (𝕄 F) := iprop(∃ K, Invs I K ∗ Marks ∗ Stands c ∗ PayToks c)

/-- The state the launch starts from. -/
def u₀ : UU :=
  (initOf (Pipeline.cells cfgs cellOf_inj) (Pipeline.launchToks cfgs cellOf_inj), initOf ringCells ringToks)

theorem fund_ring : BI.own (ER (initOf ringCells ringToks)) ⊢ (|==> bigSep Finset.univ (G I) : sProp (𝕄 F)) := by
  have hX (Φ : GSem nD τ sig → sProp (𝕄 F)) :
      bigSep ringCells Φ = bigSep Finset.univ fun c : Dev nD => bigSep Finset.univ fun k : Ck => Φ (cell c k) := by
    unfold ringCells; rw [bigSep_map, bigSep_univ_prod]; rfl
  have hT : bigSep ringToks (fun x => (dutyTok ER x.1 x.2.1 x.2.2 : sProp (𝕄 F))) = bigSep Finset.univ fun c : Dev nD => Toks c := by
    unfold ringToks; rw [bigSep_map, bigSep_univ_prod]
    refine bigSep_congr fun c _ => ?_
    unfold Toks T
    rw [bigSep_univ_sum, bigSep_univ_prod]; rfl
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq : (unscopedSems0 c : sProp (𝕄 F)) = semVal (cell c barC) 0 := by
  unfold unscopedSems0; rw [bigSep_eq_bigSepL_of_eq [SemLoc.reg barS] (by decide) (by decide)]; rfl

theorem ownSems0_eq : (Pipeline.ownSems0 (Ix := ℕ) (Name := ℕ) (U := UU) (Lvl := ℕ) (Val := Elt F) (τ := τ) osem c : sProp (𝕄 F))
    = bigSep Finset.univ fun x : Fin 5 × Fin 8 => semVal (cell c (.inr x)) 0 := rfl

theorem sems0_eq :
    iprop(Pipeline.ownSems0 (Ix := ℕ) (Name := ℕ) (U := UU) (Lvl := ℕ) (Val := Elt F) (τ := τ) osem c ∗ unscopedSems0 c)
      ⊢ (bigSep Finset.univ fun k : Ck => semVal (cell c k) 0 : sProp (𝕄 F)) := by
  rw [ownSems0_eq, unscopedSems0_eq, bigSep_ck]
  exact sep_comm

theorem core_alloc :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k : Ck => iprop(∃ κ : ℕ, cellInv ER (ringRd I) κ (cell c k)))
          ∗ (bigSep Finset.univ fun k : Ck => iprop(atPos ER (cell c k) 0 ∅ 0 ∗ reached ER (cell c k) 0)) ∗ Toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Ck => semVal (cell c k) 0) ∗ bigSep Finset.univ fun k : Ck => roundState ER (ringRd I) (cell c k) 0)
      ⊢ (|={Set.univ}=> bigSep Finset.univ fun k : Ck => iprop(∃ κ : ℕ, cellInv ER (ringRd I) κ (cell c k)) : sProp (𝕄 F)) from by
        rw [← bigSep_sep']
        exact (bigSep_mono fun k _ => (Rounds.body_intro ER (ringRd I) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem regroup :
    (bigSep Finset.univ fun c : Dev nD => iprop((bigSep Finset.univ fun k : Ck => iprop(∃ κ : ℕ, cellInv ER (ringRd I) κ (cell c k)))
          ∗ (bigSep Finset.univ fun k : Ck => iprop(atPos ER (cell c k) 0 ∅ 0 ∗ reached ER (cell c k) 0)) ∗ Toks c) : sProp (𝕄 F))
      ⊢ bigSep Finset.univ (G' I) := by
  rw [bigSep_sep', bigSep_sep', ← bigSep_univ_prod (fun ck : Dev nD × Ck => iprop(∃ κ : ℕ, cellInv ER (ringRd I) κ (cell ck.1 ck.2))),
    bigSep_congr (s := Finset.univ) (fun (c : Dev nD) _ => bigSep_sep' Finset.univ (fun k : Ck => (atPos ER (cell c k) 0 ∅ 0 : sProp (𝕄 F))) (fun k => reached ER (cell c k) 0)),
    bigSep_sep', ← bigSep_univ_prod (fun ck : Dev nD × Ck => (reached ER (cell ck.1 ck.2) 0 : sProp (𝕄 F)))]
  iintro ⟨HI, ⟨Hat, #HR⟩, Htok⟩
  ihave HK := (BI.bigSep_exists_pi Finset.univ (fun (ck : Dev nD × Ck) (κ : ℕ) => (cellInv ER (ringRd I) κ (cell ck.1 ck.2) : sProp (𝕄 F)))) $$ HI
  icases HK with ⟨%K, #HI⟩
  ihave Htk := (toks_around (F := F)) $$ Htok
  iapply (bigSep_with (R := iprop(Invs I K ∗ Marks)) (Φ := fun c : Dev nD => iprop(Stands c ∗ PayToks c)) (Ψ := G' I) fun c _ => by
    unfold G'
    iintro ⟨⟨#HI, #HM⟩, HS, HP⟩
    iexists K
    isplitr; · iexact HI
    isplitr; · iexact HM
    isplitl [HS]; · iexact HS
    iexact HP)
  isplitr
  · isplitr; · unfold Invs; iexact HI
    unfold Marks; iexact HR
  · rw [bigSep_sep']
    isplitl [Hat]; · unfold Stands; iexact Hat
    iexact Htk

/-- The rules of all semaphores are set up at once. -/
theorem glob : (bigSep Finset.univ fun c => iprop(Pipeline.ownSems0 (Ix := ℕ) (Name := ℕ) (U := UU) (Lvl := ℕ) (Val := Elt F) (τ := τ) osem c ∗ unscopedSems0 c ∗ G I c) : sProp (𝕄 F))
    ⊢ |={Set.univ}=> bigSep Finset.univ (G' I) :=
  ((bigSep_mono fun c _ => core_alloc I c).trans (bigSep_fupd _ _)).trans (BI.fupd_mono (regroup I))

/-! ## What allows to wait -/

/-- What the others owe a device. -/
def due : CellTallies nD τ sig ℕ :=
  (∑ l : Fin 8, ((∑ r ∈ Finset.Ico 0 14, tallyAt (cell c (recvC l)) r N) + ∑ r ∈ Finset.Ico 0 13, tallyAt (cell c (credC l)) r 1))
    + tallyAt (cell c barC) 0 1 + tallyAt (cell c barC) 0 1

theorem sum_debt (l : Fin 8) : (∑ d : Dev nD, debt l 0 d)
    = ∑ d : Dev nD, ((∑ r ∈ Finset.Ico 0 14, tallyAt (cell d (recvC l)) r N) + ∑ r ∈ Finset.Ico 0 13, tallyAt (cell d (credC l)) r 1) := by
  unfold debt debt'
  rw [Finset.sum_add_distrib, Finset.sum_add_distrib]
  exact congrArg₂ (· + ·) (Equiv.sum_comp (dnE l) fun d => ∑ r ∈ Finset.Ico 0 14, tallyAt (cell d (recvC l)) r N)
    (Equiv.sum_comp (dnE l).symm fun d => ∑ r ∈ Finset.Ico 0 13, tallyAt (cell d (credC l)) r 1)

theorem sum_rgt : (∑ d : Dev nD, (tallyAt (cell (rgt d) barC) 0 1 : CellTallies nD τ sig ℕ)) = ∑ d : Dev nD, tallyAt (cell d barC) 0 1 :=
  Equiv.sum_comp rgtE fun d => tallyAt (cell d barC) 0 1
theorem sum_lft : (∑ d : Dev nD, (tallyAt (cell (lft d) barC) 0 1 : CellTallies nD τ sig ℕ)) = ∑ d : Dev nD, tallyAt (cell d barC) 0 1 :=
  Equiv.sum_comp rgtE.symm fun d => tallyAt (cell d barC) 0 1

/-- All that is owed is owed to someone. -/
theorem sum_owed : (∑ d : Dev nD, O₀ d) = ∑ d : Dev nD, due d := by
  unfold O₀ due
  rw [Finset.sum_add_distrib, Finset.sum_add_distrib, Finset.sum_add_distrib, Finset.sum_add_distrib, sum_rgt, sum_lft]
  refine congrArg (fun z => z + _ + _) ?_
  rw [Finset.sum_comm (f := fun (d : Dev nD) (l : Fin 8) => debt l 0 d), Finset.sum_congr rfl fun l _ => sum_debt l]
  exact Finset.sum_comm

/-- Owed at a device's semaphores only. -/
def At (O : CellTallies nD τ sig ℕ) : Prop := ∀ g : GSem nD τ sig, g.1 ≠ (c : Thread nD τ) → O g = 0

theorem At.add {c : Dev nD} {O O' : CellTallies nD τ sig ℕ} (h : At c O) (h' : At c O') : At c (O + O') := fun g hg => by
  rw [Pi.add_apply, h g hg, h' g hg, add_zero]

theorem At.sum {c : Dev nD} {ι : Type} (S : Finset ι) (f : ι → CellTallies nD τ sig ℕ) (h : ∀ i, At c (f i)) : At c (∑ i ∈ S, f i) := fun g hg => by
  rw [Finset.sum_apply]; exact Finset.sum_eq_zero fun i _ => h i g hg

theorem At.tally (k : Ck) (r n : ℕ) : At c (tallyAt (cell c k) r n) := fun g hg => tallyAt_ne_cell (fun h => hg (congrArg Prod.fst h)) r n

theorem due_at : At c (due c) :=
  ((At.sum _ _ fun l => (At.sum _ _ fun r => At.tally c _ _ _).add (At.sum _ _ fun r => At.tally c _ _ _)).add (At.tally c _ _ _)).add (At.tally c _ _ _)

theorem launch_at (sm : SemLoc sig) :
    launchCredit (Pipeline.owing O₀) 0 ((c : Thread nD τ), sm) = due c ((c : Thread nD τ), sm) := by
  refine Finsupp.ext fun u => ?_
  rw [Pipeline.launchCredit_owing]
  have h : (∑ d : Dev nD, O₀ d) ((c : Thread nD τ), sm) u = (∑ d : Dev nD, due d) ((c : Thread nD τ), sm) u := by rw [sum_owed]
  rw [Finset.sum_apply, Finsupp.finset_sum_apply, Finset.sum_apply, Finsupp.finset_sum_apply] at h
  rw [h, Finset.sum_eq_single c]
  · intro d _ hd
    rw [due_at d _ (fun h => hd (Fin.ext (congrArg (fun t : Thread nD τ => t.1.val) h).symm))]; rfl
  · exact fun h => absurd (Finset.mem_univ c) h

theorem gather {O : CellTallies nD τ sig ℕ} (h : At c O) :
    (∑ sm : SemLoc sig, tallyOn ((c : Thread nD τ), sm) (O ((c : Thread nD τ), sm))) = O := by
  funext g
  rw [Finset.sum_apply]
  by_cases hg : g.1 = (c : Thread nD τ)
  · obtain ⟨t, sm⟩ := g
    obtain rfl : t = (c : Thread nD τ) := hg
    rw [Finset.sum_eq_single sm, tallyOn_self]
    · intro s _ hs
      exact tallyOn_ne (fun h => hs (congrArg Prod.snd h).symm) _
    · exact fun h => absurd (Finset.mem_univ sm) h
  · rw [h g hg]
    exact Finset.sum_eq_zero fun s _ => tallyOn_ne (fun h => hg (congrArg Prod.fst h)) _

theorem cred_add_eq (A B : CellTallies nD τ sig ℕ) : (cred (A + B) : sProp (𝕄 F)) = iprop(cred A ∗ cred B) :=
  BI.equiv_iff.mp ⟨(cred_add A B).1, (cred_add A B).2⟩

theorem cred_sum {ι : Type} (S : Finset ι) (f : ι → CellTallies nD τ sig ℕ) :
    (cred (∑ i ∈ S, f i) : sProp (𝕄 F)) = bigSep S fun i => cred (f i) := by
  classical
  induction S using Finset.induction_on with
  | empty => rw [Finset.sum_empty, bigSep_empty, cred_zero]; rfl
  | insert i S hi ih => rw [Finset.sum_insert hi, bigSep_insert hi, cred_add_eq, ih]; rfl

/-- A device is given what it needs to wait for all that the others owe it. -/
theorem creds :
    (Pipeline.launchCred O₀ c : sProp (𝕄 F))
      = iprop((bigSep Finset.univ fun l => iprop(RC c l 0 ∗ bigSep (Finset.Ico 0 13) fun r => cred (tallyAt (cell c (credC l)) r 1)))
          ∗ cred (tallyAt (cell c barC) 0 2)) := by
  unfold Pipeline.launchCred
  rw [bigSep_congr fun sm _ => congrArg (fun κ => cred (tallyOn ((c : Thread nD τ), sm) κ)) (launch_at c sm), ← cred_sum, gather c (due_at c)]
  unfold due RC
  rw [add_assoc, tallyAt_add, cred_add_eq, cred_sum]
  congr 1
  refine bigSep_congr fun l _ => ?_
  rw [cred_add_eq, cred_sum, cred_sum]

/-! ## What a lane starts from -/

theorem bigSep_fin (n : ℕ) (Φ : ℕ → sProp (𝕄 F)) : (bigSep Finset.univ fun r : Fin n => Φ r.val) = bigSep (Finset.Ico 0 n) Φ := by
  rw [← Finset.range_eq_Ico, ← Nat.Iio_eq_range, ← Fin.map_valEmbedding_univ, bigSep_map]; rfl

theorem T_eq (x : Fin 5 × Fin 8) : (T c x : sProp (𝕄 F)) = bigSep (Finset.Ico 0 14) fun r => dutyTok ER (cell c (.inr x)) r false :=
  bigSep_fin 14 fun r => dutyTok ER (cell c (.inr x)) r false

theorem T_first (x : Fin 5 × Fin 8) (n : ℕ) (h : n ≤ 14) : (T c x : sProp (𝕄 F)) ⊢ bigSep (Finset.Ico 0 n) fun r => dutyTok ER (cell c (.inr x)) r false := by
  rw [T_eq]; exact bigSep_subset (Finset.Ico_subset_Ico_right h)

theorem copies_eq (l : Fin 8) :
    iprop((bigSep (Finset.Ico 0 4) fun r => dutyTok ER (cell c (copyC l 0)) r false) ∗ bigSep (Finset.Ico 0 4) fun r => dutyTok ER (cell c (copyC l 1)) r false)
      ⊢ (bigSep (Finset.Ico 0 8) fun n => dutyTok ER (cell c (copyC l (par n))) (n / 2) false : sProp (𝕄 F)) := by
  rw [bigSep_eq_bigSepL_of_eq [0, 1, 2, 3] (by decide) (by decide), bigSep_eq_bigSepL_of_eq [0, 1, 2, 3] (by decide) (by decide),
    bigSep_eq_bigSepL_of_eq [0, 1, 2, 3, 4, 5, 6, 7] (by decide) (by decide)]
  simp only [bigSepL_cons_cons, bigSepL_singleton]
  show iprop((_ ∗ _ ∗ _ ∗ _) ∗ _ ∗ _ ∗ _ ∗ _) ⊢ iprop(_ ∗ _ ∗ _ ∗ _ ∗ _ ∗ _ ∗ _ ∗ _)
  iintro ⟨⟨H0, H2, H4, H6⟩, H1, H3, H5, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What a lane is dealt. -/
def Dealt (l : Fin 8) : sProp (𝕄 F) :=
  iprop((atPos ER (cell c (.inr (0, l))) 0 ∅ 0 ∗ atPos ER (cell c (.inr (1, l))) 0 ∅ 0 ∗ atPos ER (cell c (.inr (2, l))) 0 ∅ 0
        ∗ atPos ER (cell c (.inr (3, l))) 0 ∅ 0 ∗ atPos ER (cell c (.inr (4, l))) 0 ∅ 0)
      ∗ (T c (0, l) ∗ T (dn l c) (1, l) ∗ T (up l c) (2, l) ∗ T c (3, l) ∗ T c (4, l))
      ∗ (RC c l 0 ∗ bigSep (Finset.Ico 0 13) fun r => cred (tallyAt (cell c (credC l)) r 1))
      ∗ (bigSep (Finset.Ico 0 8) fun n => anyOut c l n) ∗ anyPc c l)

/-- What a lane is dealt is what it starts from. -/
theorem begin_of (l : Fin 8) : (Dealt c l : sProp (𝕄 F)) ⊢ Begin c l := by
  unfold Dealt Begin CT RT OT
  rw [bigSep_sep', bigSep_sep', bigSep_sep']
  have hsend : (T c (0, l) : sProp (𝕄 F)) ⊢ bigSep (Finset.Ico 0 14) fun r => dutyTok ER (cell c (sendC l)) r false := T_first c (0, l) 14 (le_refl _)
  have hrecv : (T (dn l c) (1, l) : sProp (𝕄 F)) ⊢ bigSep (Finset.Ico 0 14) fun r => dutyTok ER (cell (dn l c) (recvC l)) r false := T_first (dn l c) (1, l) 14 (le_refl _)
  have hcred : (T (up l c) (2, l) : sProp (𝕄 F)) ⊢ bigSep (Finset.Ico 0 13) fun r => dutyTok ER (cell (up l c) (credC l)) r false := T_first (up l c) (2, l) 13 (by decide)
  have h3 : (T c (3, l) : sProp (𝕄 F)) ⊢ bigSep (Finset.Ico 0 4) fun r => dutyTok ER (cell c (copyC l 0)) r false := T_first c (3, l) 4 (by decide)
  have h4 : (T c (4, l) : sProp (𝕄 F)) ⊢ bigSep (Finset.Ico 0 4) fun r => dutyTok ER (cell c (copyC l 1)) r false := T_first c (4, l) 4 (by decide)
  iintro ⟨⟨A0, A1, A2, A3, A4⟩, ⟨T0, T1, T2, T3, T4⟩, ⟨HR, HC⟩, HO, HP⟩
  isplitl [A1]; · iexact A1
  isplitl [A0]; · iexact A0
  isplitl [A2]; · iexact A2
  isplitl [HR]; · iexact HR
  isplitl [T2 HC]
  · isplitl [T2]; · iapply hcred; iexact T2
    iexact HC
  isplitl [T0 T1]
  · isplitl [T1]; · iapply hrecv; iexact T1
    iapply hsend; iexact T0
  isplitl [A3 A4]
  · ihave H := (Entails.of_eq (show iprop(atPos ER (cell c (.inr (3, l))) 0 ∅ 0 ∗ atPos ER (cell c (.inr (4, l))) 0 ∅ 0) = (Pos c l 0 : sProp (𝕄 F)) from rfl)) $$ [A3 A4]
    · isplitl [A3]; · iexact A3
      iexact A4
    iexact H
  isplitr [HP]
  · isplitr [HO]
    · iapply (copies_eq c l)
      isplitl [T3]; · iapply h3; iexact T3
      iapply h4; iexact T4
    iexact HO
  iexact HP

theorem bigSep_four (A B C D : Fin 8 → sProp (𝕄 F)) :
    (bigSep Finset.univ fun l => iprop(A l ∗ B l ∗ C l ∗ D l))
      = iprop((bigSep Finset.univ A) ∗ (bigSep Finset.univ B) ∗ (bigSep Finset.univ C) ∗ bigSep Finset.univ D) := by
  rw [bigSep_sep', bigSep_three]

theorem Dealt_all : (bigSep Finset.univ fun l => Dealt c l : sProp (𝕄 F))
    = iprop((bigSep Finset.univ fun l : Fin 8 => iprop(atPos ER (cell c (.inr (0, l))) 0 ∅ 0 ∗ atPos ER (cell c (.inr (1, l))) 0 ∅ 0 ∗ atPos ER (cell c (.inr (2, l))) 0 ∅ 0
          ∗ atPos ER (cell c (.inr (3, l))) 0 ∅ 0 ∗ atPos ER (cell c (.inr (4, l))) 0 ∅ 0))
        ∗ (bigSep Finset.univ fun l : Fin 8 => iprop(T c (0, l) ∗ T (dn l c) (1, l) ∗ T (up l c) (2, l) ∗ T c (3, l) ∗ T c (4, l)))
        ∗ (bigSep Finset.univ fun l : Fin 8 => iprop(RC c l 0 ∗ bigSep (Finset.Ico 0 13) fun r => cred (tallyAt (cell c (credC l)) r 1)))
        ∗ bigSep Finset.univ fun l : Fin 8 => iprop((bigSep (Finset.Ico 0 8) fun n => anyOut c l n) ∗ anyPc c l)) := by
  unfold Dealt; exact bigSep_four _ _ _ _

/-- What a device is dealt is what it starts from. -/
theorem deal :
    iprop(Stands c ∗ PayToks c ∗ Pipeline.launchCred O₀ c
        ∗ (bigSep Finset.univ fun l : Fin 8 => iprop((bigSep (Finset.Ico 0 8) fun n => anyOut c l n) ∗ anyPc c l)))
      ⊢ (iprop(Meet c ∗ bigSep Finset.univ fun l => Begin c l) : sProp (𝕄 F)) := by
  unfold Stands PayToks Meet
  rw [creds, bigSep_ck, bigSep_own]
  iintro ⟨⟨Hb, HA⟩, ⟨⟨Ht, Hf⟩, HT⟩, ⟨HC, Hcb⟩, HM⟩
  isplitl [Hb Ht Hf Hcb]
  · isplitl [Ht]; · iexact Ht
    isplitl [Hf]; · iexact Hf
    isplitl [Hcb]; · iexact Hcb
    iexact Hb
  have hB : (bigSep Finset.univ fun l => Dealt c l : sProp (𝕄 F)) ⊢ bigSep Finset.univ fun l => Begin c l := bigSep_mono fun l _ => begin_of c l
  iapply hB
  rw [Dealt_all]
  isplitl [HA]; · iexact HA
  isplitl [HT]; · iexact HT
  isplitl [HC]; · iexact HC
  iexact HM

end Cert.KernelIdeal.Ring

end
-- ==== Proof.Mem.lean ====
/-
The device's memory around the body: a landing buffer is its two slots, and the result is the blocks
the lanes finish. Each lane finishes one block of its columns for every row block, whichever device
looks, so that once all are finished every device holds the same result, `res`.
-/
module

public import proofs.«01_k».proof.Proof.Deal
public import Idealize.ShloMosaic.Lib.Pointwise.Index

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Which block is where -/

/-- The row block a lane finishes by its own additions on a device. -/
def own (l : Fin 8) (d : Dev nD) : Fin 8 :=
  if l.val % 2 = 0 then ⟨(d.val + 1) % 8, Nat.mod_lt _ (by decide)⟩ else ⟨(d.val + 7) % 8, Nat.mod_lt _ (by decide)⟩

/-- The device on which a lane finishes a row block by its own additions. -/
def ownDev (l q : Fin 8) : Dev nD :=
  if l.val % 2 = 0 then ⟨(q.val + 7) % 8, Nat.mod_lt _ (by decide)⟩ else ⟨(q.val + 1) % 8, Nat.mod_lt _ (by decide)⟩

/-- The device `n` places up a lane. -/
def back (l : Fin 8) (n : Fin 8) (d : Dev nD) : Dev nD :=
  if l.val % 2 = 0 then ⟨(d.val + 8 - n.val) % 8, Nat.mod_lt _ (by decide)⟩ else ⟨(d.val + n.val) % 8, Nat.mod_lt _ (by decide)⟩

theorem own_ownDev : ∀ l q : Fin 8, own l (ownDev l q) = q := by decide
theorem ownDev_own : ∀ (l : Fin 8) (d : Dev nD), ownDev l (own l d) = d := by decide
theorem back_zero : ∀ (l : Fin 8) (d : Dev nD), back l 0 d = d := by decide
theorem own_back_inj : ∀ (l : Fin 8) (d : Dev nD) (n n' : Fin 8), own l (back l n d) = own l (back l n' d) → n = n' := by decide +kernel
theorem own_back_surj : ∀ (l : Fin 8) (d : Dev nD) (q : Fin 8), ∃ n : Fin 8, own l (back l n d) = q := by decide +kernel
theorem back_succ : ∀ (l : Fin 8) (d : Dev nD) (n : Fin 7), back l n.castSucc (up l d) = back l n.succ d := by decide +kernel

theorem outOff_at : ∀ (l : Fin 8) (d : Dev nD) (n : Fin 8),
    outOff l d n 0 = 512 * (own l (back l n d)).val ∧ outOff l d n 1 = base l := by decide +kernel

theorem base_apart : ∀ l l' : Fin 8, l ≠ l' → base l + 1024 ≤ base l' ∨ base l' + 1024 ≤ base l := by decide

/-- The lane that finishes a column. -/
def laneOf (k : Fin 8) : Fin 8 := ⟨k.val % 4 * 2 + k.val / 4, by omega⟩

theorem base_laneOf : ∀ k : Fin 8, base (laneOf k) = 1024 * k.val := by decide
theorem laneOf_base : ∀ l : Fin 8, ∃ k : Fin 8, base l = 1024 * k.val ∧ laneOf k = l := by decide

/-- What arrives `n` steps after a lane's own additions is what the device `n` places up finished. -/
theorem val_back (I : Ins F) (l : Fin 8) : ∀ (n : ℕ) (h : n < 8) (d : Dev nD), val I l (7 + n) d = val I l 7 (back l ⟨n, h⟩ d)
  | 0, _, d => by rw [show (⟨0, _⟩ : Fin 8) = 0 from rfl, back_zero]
  | n + 1, h, d => by
    rw [show 7 + (n + 1) = (7 + n) + 1 from rfl, val, if_neg (by omega), val_back I l n (by omega) (up l d)]
    exact congrArg (val I l 7) (back_succ l d ⟨n, by omega⟩)

/-! ## The result -/

/-- The result: at each entry, what the lane of its column finished for its row block. -/
def res (I : Ins F) : FVec F S4096x8192 .f32 := fun i =>
  val I (laneOf ⟨(i 1).val / 1024, Nat.div_lt_of_lt_mul (show (i 1).val < 1024 * 8 from (i 1).isLt)⟩) 7
    (ownDev (laneOf ⟨(i 1).val / 1024, Nat.div_lt_of_lt_mul (show (i 1).val < 1024 * 8 from (i 1).isLt)⟩)
      ⟨(i 0).val / 512, Nat.div_lt_of_lt_mul (show (i 0).val < 512 * 8 from (i 0).isLt)⟩)
    (ix2 (n0 := 512) (n1 := 1024) ⟨(i 0).val % 512, Nat.mod_lt _ (by decide)⟩ ⟨(i 1).val % 1024, Nat.mod_lt _ (by decide)⟩)

/-- Entry `j` of a lane's block, by where it lies. -/
theorem res_at (I : Ins F) (l q : Fin 8) (j : S512x1024.Idx) (i : S4096x8192.Idx)
    (h0 : (i 0).val = 512 * q.val + (j 0).val) (h1 : (i 1).val = base l + (j 1).val) :
    res I i = val I l 7 (ownDev l q) j := by
  obtain ⟨k, hk, hl⟩ := laneOf_base l
  have b0 : (j 0).val < 512 := (j 0).isLt
  have b1 : (j 1).val < 1024 := (j 1).isLt
  have e1 : (⟨(i 1).val / 1024, Nat.div_lt_of_lt_mul (show (i 1).val < 1024 * 8 from (i 1).isLt)⟩ : Fin 8) = k := Fin.ext (by show _ / _ = _; omega)
  have e0 : (⟨(i 0).val / 512, Nat.div_lt_of_lt_mul (show (i 0).val < 512 * 8 from (i 0).isLt)⟩ : Fin 8) = q := Fin.ext (by show _ / _ = _; omega)
  have e2 : ix2 (n0 := 512) (n1 := 1024) ⟨(i 0).val % 512, Nat.mod_lt _ (by decide)⟩ ⟨(i 1).val % 1024, Nat.mod_lt _ (by decide)⟩ = j := by
    rw [eq_ix2 j]
    exact congrArg₂ ix2 (Fin.ext (by show _ % _ = _; omega)) (Fin.ext (by show _ % _ = _; omega))
  unfold res
  rw [e1, e0, e2, hl]

/-- The rectangle of a lane's `n`-th block. -/
abbrev outR (d : Dev nD) (t : Fin 8 × Fin 8) : Rect S4096x8192 :=
  Rect.unit (s := S4096x8192) (outOff t.1 d t.2) S512x1024.size (outOff_inb t.1 d t.2)

theorem outR_mem (d : Dev nD) (t : Fin 8 × Fin 8) (i : S4096x8192.Idx) :
    i ∈ (outR d t).set ↔ (512 * (own t.1 (back t.1 t.2 d)).val ≤ (i 0).val ∧ (i 0).val < 512 * (own t.1 (back t.1 t.2 d)).val + 512)
      ∧ (base t.1 ≤ (i 1).val ∧ (i 1).val < base t.1 + 1024) := by
  rw [Rect.mem_set_unit, Fin.forall_fin_two, (outOff_at t.1 d t.2).1, (outOff_at t.1 d t.2).2]; rfl

theorem outR_disj (d : Dev nD) (t t' : Fin 8 × Fin 8) (h : t ≠ t') : Disjoint (outR d t).set (outR d t').set := by
  rw [Finset.disjoint_left]
  intro i hi hi'
  rw [outR_mem] at hi hi'
  obtain ⟨l, n⟩ := t
  obtain ⟨l', n'⟩ := t'
  by_cases hl : l = l'
  · subst hl
    have : own l (back l n d) = own l (back l n' d) := Fin.ext (by have := hi.1; have := hi'.1; dsimp only at *; omega)
    exact h (by rw [own_back_inj l d n n' this])
  · have := base_apart l l' hl
    have := hi.2; have := hi'.2; dsimp only at *; omega

theorem outR_cov (d : Dev nD) : (Finset.univ.biUnion fun t => (outR d t).set) = Finset.univ := by
  refine Finset.eq_univ_iff_forall.mpr fun i => Finset.mem_biUnion.mpr ?_
  have b0 : (i 0).val < 512 * 8 := (i 0).isLt
  have b1 : (i 1).val < 1024 * 8 := (i 1).isLt
  obtain ⟨n, hn⟩ := own_back_surj (laneOf ⟨(i 1).val / 1024, by omega⟩) d ⟨(i 0).val / 512, by omega⟩
  refine ⟨(laneOf ⟨(i 1).val / 1024, by omega⟩, n), Finset.mem_univ _, ?_⟩
  rw [outR_mem]
  dsimp only
  rw [hn, base_laneOf]
  dsimp only
  omega

/-- A lane's finished block is the result there. -/
theorem res_block (I : Ins F) (d : Dev nD) (t : Fin 8 × Fin 8) :
    (fun j => res I ((outR d t).emb j)) = val I t.1 (7 + t.2.val) d := by
  funext j
  rw [val_back I t.1 t.2.val t.2.isLt d]
  rw [show back t.1 ⟨t.2.val, t.2.isLt⟩ d = ownDev t.1 (own t.1 (back t.1 t.2 d)) from (ownDev_own t.1 _).symm]
  refine res_at I t.1 (own t.1 (back t.1 t.2 d)) j _ ?_ ?_
  · rw [Rect.emb_apply]
    show outOff t.1 d t.2 0 + 1 * (j 0).val = _
    rw [(outOff_at t.1 d t.2).1, Nat.one_mul]
  · rw [Rect.emb_apply]
    show outOff t.1 d t.2 1 + 1 * (j 1).val = _
    rw [(outOff_at t.1 d t.2).2, Nat.one_mul]

theorem bigSep_range_univ (P : ℕ → sProp (𝕄 F)) :
    (bigSep (Finset.range 8) P : sProp (𝕄 F)) = bigSep Finset.univ fun n : Fin 8 => P n.val := by
  rw [show Finset.range 8 = (Finset.univ : Finset (Fin 8)).map Fin.valEmbedding from by decide, bigSep_map]; rfl

theorem oi_val (n : Fin 8) : oi n.val = n := Fin.ext (Nat.mod_eq_of_lt n.isLt)

variable (c : Dev nD)

/-- The result's buffer is the blocks of all lanes. -/
theorem out_split (f : Buf (Elt F) ((c : Thread nD τ).loc main_v1)) :
    ((c : Thread nD τ).loc main_v1 ↦{fullShare} f : sProp (𝕄 F))
      ⊢ bigSep Finset.univ fun l : Fin 8 => bigSep (Finset.Ico 0 8) fun n => anyOut c l n := by
  have h1 : ∀ l : Fin 8, (bigSep (Finset.Ico 0 8) fun n => anyOut (F := F) c l n : sProp (𝕄 F))
      = bigSep Finset.univ fun n : Fin 8 => iprop(∃ X, owns (c : Thread nD τ) (outH l c n) fullShare X) := fun l => by
    rw [show Finset.Ico 0 8 = Finset.range 8 from by decide, bigSep_range_univ]
    refine bigSep_congr fun n _ => ?_
    unfold anyOut; rw [oi_val]
  rw [bigSep_congr fun l _ => h1 l, ← bigSep_univ_prod (fun t : Fin 8 × Fin 8 => iprop(∃ X, owns (c : Thread nD τ) (outH t.1 c t.2) fullShare X))]
  refine (Entails.of_eq (owns_whole (c : Thread nD τ) main_v1 fullShare f).symm).trans ?_
  refine (owns_rects (c : Thread nD τ) (Memref.whole main_v1) fullShare (outR c) (fun _ _ => rfl) (outR_disj c) (outR_cov c) f).trans ?_
  have h2 : ∀ (t : Fin 8 × Fin 8) (X : FVec F S512x1024 .f32), (owns (c : Thread nD τ) (outH t.1 c t.2) fullShare X : sProp (𝕄 F))
      ⊢ iprop(∃ X, owns (c : Thread nD τ) (outH t.1 c t.2) fullShare X) := fun t X => by
    iintro H
    iexists X
    iexact H
  exact bigSep_mono fun t _ => h2 t _

/-- The blocks of one content make the result's buffer at it. -/
theorem out_of (X : Vec F S4096x8192 .f32) :
    (bigSep Finset.univ fun t : Fin 8 × Fin 8 => owns (c : Thread nD τ) (outH t.1 c t.2) fullShare (fun j => X ((outR c t).emb j)) : sProp (𝕄 F))
      ⊢ ((c : Thread nD τ).loc main_v1 ↦{fullShare} X) :=
  (owns_of_rects (c : Thread nD τ) (Memref.whole main_v1) fullShare (outR c) (fun _ _ => rfl) (outR_disj c) (outR_cov c) X).trans
    (Entails.of_eq (owns_whole (c : Thread nD τ) main_v1 fullShare X))

/-- The finished blocks of all lanes are the result's buffer, holding the result. -/
theorem out_join (I : Ins F) :
    (bigSep Finset.univ fun l : Fin 8 => Done I c l 8 : sProp (𝕄 F)) ⊢ ((c : Thread nD τ).loc main_v1 ↦{fullShare} (res I)) := by
  have h1 : ∀ l : Fin 8, (Done I c l 8 : sProp (𝕄 F))
      = bigSep Finset.univ fun n : Fin 8 => owns (c : Thread nD τ) (outH l c n) fullShare (val I l (7 + n.val) c) := fun l => by
    unfold Done
    rw [bigSep_range_univ]
    refine bigSep_congr fun n _ => ?_
    unfold doneOut; rw [oi_val]
  have h2 := bigSep_univ_prod (fun t : Fin 8 × Fin 8 =>
    (owns (c : Thread nD τ) (outH t.1 c t.2) fullShare (val I t.1 (7 + t.2.val) c) : sProp (𝕄 F)))
  have h3 : ∀ t : Fin 8 × Fin 8, (owns (c : Thread nD τ) (outH t.1 c t.2) fullShare (val I t.1 (7 + t.2.val) c) : sProp (𝕄 F))
      = owns (c : Thread nD τ) (outH t.1 c t.2) fullShare (fun j => res I ((outR c t).emb j)) := fun t =>
    congrArg (owns (c : Thread nD τ) (outH t.1 c t.2) fullShare) (res_block I c t).symm
  exact (Entails.of_eq (((bigSep_congr fun l _ => h1 l).trans h2.symm).trans (bigSep_congr fun t _ => h3 t))).trans (out_of c (res I))

/-! ## The landing buffers -/

theorem slotR_mem (p : Fin 2) (i : S2x512x1024.Idx) : i ∈ (slotR p).set ↔ (i 0).val = p.val := by
  rw [Rect.mem_set_unit]
  constructor
  · intro h
    have h0 := h 0
    have : p.val ≤ (i 0).val ∧ (i 0).val < p.val + 1 := h0
    omega
  · intro h a
    match a with
    | ⟨0, _⟩ => exact ⟨le_of_eq h.symm, lt_of_eq_of_lt h (Nat.lt_succ_self _)⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem slotR_disj (p p' : Fin 2) (h : p ≠ p') : Disjoint (slotR p).set (slotR p').set := by
  rw [Finset.disjoint_left]
  intro i hi hi'
  rw [slotR_mem] at hi hi'
  exact h (Fin.ext (hi.symm.trans hi'))

theorem slotR_cov : (Finset.univ.biUnion fun p => (slotR p).set) = Finset.univ :=
  Finset.eq_univ_iff_forall.mpr fun i => Finset.mem_biUnion.mpr ⟨i 0, Finset.mem_univ _, (slotR_mem _ i).mpr rfl⟩

/-- Two slots' contents as one buffer's. -/
def both (Y : Fin 2 → Vec F S1x512x1024 .f32) : Vec F S2x512x1024 .f32 := fun i => Y (i 0) (ix3 (n0 := 1) (n1 := 512) (n2 := 1024) 0 (i 1) (i 2))

theorem both_at (Y : Fin 2 → Vec F S1x512x1024 .f32) (p : Fin 2) : (fun j => both Y ((slotR p).emb j)) = Y p := by
  funext j
  have h0 : (slotR p).emb j 0 = p := Fin.ext (by
    rw [Rect.emb_apply]
    show p.val + 1 * (j 0).val = p.val
    have : (j 0).val < 1 := (j 0).isLt
    omega)
  unfold both
  rw [h0]
  refine congrArg (Y p) ?_
  funext a
  match a with
  | ⟨0, _⟩ => exact Fin.ext (by have : (j 0).val < 1 := (j 0).isLt; show 0 = (j 0).val; omega)
  | ⟨1, _⟩ => exact Fin.ext (by show 0 + 1 * (j 1).val = (j 1).val; omega)
  | ⟨2, _⟩ => exact Fin.ext (by show 0 + 1 * (j 2).val = (j 2).val; omega)

/-- A slot as a slice is the slot as transfers address it, -/
theorem slot_squeeze (l : Fin 8) (p : Fin 2) (X : Vec F S1x512x1024 .f32) :
    (owns (c : Thread nD τ) ((slotM l).slice (slotR p) (fun _ => rfl)) fullShare X : sProp (𝕄 F)) ⊢ anySlot c l p := by
  unfold anySlot owns
  iintro ⟨%f, -, H⟩
  iexists _
  iexists f
  isplitr; · ipureintro; rfl
  rw [show (slotH l p).view.set = ((slotM l).view.slice (slotR p)).set from View.set_reshape _ _]
  iexact H

/-- and back. -/
theorem slot_unsqueeze (l : Fin 8) (p : Fin 2) :
    (anySlot c l p : sProp (𝕄 F)) ⊢ ∃ X : Vec F S1x512x1024 .f32, owns (c : Thread nD τ) ((slotM l).slice (slotR p) (fun _ => rfl)) fullShare X := by
  unfold anySlot owns
  iintro ⟨%X, %f, -, H⟩
  iexists _
  iexists f
  isplitr; · ipureintro; rfl
  rw [show (slotH l p).view.set = ((slotM l).view.slice (slotR p)).set from View.set_reshape _ _]
  iexact H

/-- A landing buffer is its two slots, -/
theorem slots_split (l : Fin 8) (X : Vec F S2x512x1024 .f32) :
    (owns (c : Thread nD τ) (slotM l) fullShare X : sProp (𝕄 F)) ⊢ iprop(anySlot c l 0 ∗ anySlot c l 1) := by
  refine (owns_rects (c : Thread nD τ) (slotM l) fullShare slotR (fun _ _ => rfl) slotR_disj slotR_cov X).trans ?_
  refine (bigSep_mono fun p _ => slot_squeeze c l p _).trans ?_
  rw [bigSep_univ_eq_bigSepL [(0 : Fin 2), 1] (by decide) (by decide)]
  simp only [bigSepL_cons_cons, bigSepL_singleton]
  exact Entails.of_eq (show iprop(anySlot (F := F) c l 0 ∗ anySlot c l 1) = _ from rfl)

/-- and back. -/
theorem slots_join (l : Fin 8) :
    iprop(anySlot c l 0 ∗ anySlot c l 1) ⊢ (∃ X, owns (c : Thread nD τ) (slotM l) fullShare X : sProp (𝕄 F)) := by
  have h0 := slot_unsqueeze (F := F) c l 0
  have h1 := slot_unsqueeze (F := F) c l 1
  iintro ⟨H0, H1⟩
  ihave H0 := h0 $$ H0
  ihave H1 := h1 $$ H1
  icases H0 with ⟨%X0, H0⟩
  icases H1 with ⟨%X1, H1⟩
  iexists both ![X0, X1]
  have hj : (bigSep Finset.univ fun p : Fin 2 => owns (c : Thread nD τ) ((slotM l).slice (slotR p) (fun _ => rfl)) fullShare
        (fun j => both ![X0, X1] ((slotR p).emb j)) : sProp (𝕄 F)) ⊢ owns (c : Thread nD τ) (slotM l) fullShare (both ![X0, X1]) :=
    owns_of_rects (c : Thread nD τ) (slotM l) fullShare slotR (fun _ _ => rfl) slotR_disj slotR_cov (both ![X0, X1])
  have hs : (iprop(owns (c : Thread nD τ) ((slotM l).slice (slotR 0) (fun _ => rfl)) fullShare X0
        ∗ owns (c : Thread nD τ) ((slotM l).slice (slotR 1) (fun _ => rfl)) fullShare X1) : sProp (𝕄 F))
      = bigSep Finset.univ fun p : Fin 2 => owns (c : Thread nD τ) ((slotM l).slice (slotR p) (fun _ => rfl)) fullShare (fun j => both ![X0, X1] ((slotR p).emb j)) := by
    rw [bigSep_congr fun p _ => congrArg (owns (c : Thread nD τ) ((slotM l).slice (slotR p) (fun _ => rfl)) fullShare) (both_at ![X0, X1] p),
      bigSep_univ_eq_bigSepL [(0 : Fin 2), 1] (by decide) (by decide)]
    simp only [bigSepL_cons_cons, bigSepL_singleton]
    rfl
  iapply hj
  rw [← hs]
  isplitl [H0] <;> iassumption

end Cert.KernelIdeal.Ring

end
-- ==== Proof.Run.lean ====
/-
The launch: every device runs the body, and at the end every device's result is `res` of the inputs,
the inputs are as they were, and every semaphore counter is zero.
-/
module

public import proofs.«01_k».proof.Proof.Mem
public import proofs.«01_k».proof.Proof.Gen.KernelIdeal.Points
public import Idealize.ShloMosaic.Lib.Pipeline.CollectiveSegs

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The kernel's own buffers -/

/-- A landing buffer, whatever it holds. -/
def anyBuf (c : Dev nD) (l : Fin 8) : sProp (𝕄 F) := iprop(∃ X, owns (c : Thread nD τ) (slotM l) fullShare X)

theorem slots_all (c : Dev nD) :
    (bigSep Finset.univ fun l : Fin 8 => anyBuf c l : sProp (𝕄 F))
      ⊢ iprop((bigSep Finset.univ fun l : Fin 8 => anySlot c l 0) ∗ bigSep Finset.univ fun l : Fin 8 => anySlot c l 1) := by
  rw [← bigSep_sep']
  have h : ∀ l : Fin 8, (anyBuf c l : sProp (𝕄 F)) ⊢ iprop(anySlot c l 0 ∗ anySlot c l 1) := fun l => by
    unfold anyBuf
    iintro ⟨%X, H⟩
    iapply (slots_split c l X)
    iexact H
  exact bigSep_mono fun l _ => h l

theorem slots_back (c : Dev nD) :
    iprop((bigSep Finset.univ fun l : Fin 8 => anySlot c l 0) ∗ bigSep Finset.univ fun l : Fin 8 => anySlot c l 1)
      ⊢ (bigSep Finset.univ fun l : Fin 8 => anyBuf c l : sProp (𝕄 F)) := by
  rw [← bigSep_sep']
  exact bigSep_mono fun l _ => slots_join c l

theorem bigSep_lane (Φ : Fin 8 → sProp (𝕄 F)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A whole buffer, whatever it holds. -/
theorem any_whole (c : Dev nD) (b : Ref sig .tc) :
    (iprop(∃ X, owns (c : Thread nD τ) (Memref.whole b) fullShare X) : sProp (𝕄 F))
      = iprop(∃ f : Buf (Elt F) ((c : Thread nD τ).loc b), ((c : Thread nD τ).loc b) ↦{fullShare} f) := by
  simp only [owns_whole]

theorem rest_eq (c : Dev nD) :
    (Pipeline.scopedRest (Ix := ℕ) (Name := ℕ) (U := UU) (Lvl := ℕ) (Val := Elt F) cfg0.spec c : sProp (𝕄 F))
      ⊣⊢ iprop((bigSep Finset.univ fun l : Fin 8 => anyBuf c l) ∗ bigSep Finset.univ fun l : Fin 8 => anyPc c l) := by
  have hb : (bigSep Finset.univ fun l : Fin 8 => anyBuf (F := F) c l) = _ := bigSep_lane _
  have hp : (bigSep Finset.univ fun l : Fin 8 => anyPc (F := F) c l) = _ := bigSep_lane _
  have e0 : anyBuf (F := F) c 0 = _ := any_whole c cc0_scratch0
  have e1 : anyBuf (F := F) c 1 = _ := any_whole c cc0_scratch1
  have e2 : anyBuf (F := F) c 2 = _ := any_whole c cc0_scratch2
  have e3 : anyBuf (F := F) c 3 = _ := any_whole c cc0_scratch3
  have e4 : anyBuf (F := F) c 4 = _ := any_whole c cc0_scratch4
  have e5 : anyBuf (F := F) c 5 = _ := any_whole c cc0_scratch5
  have e6 : anyBuf (F := F) c 6 = _ := any_whole c cc0_scratch6
  have e7 : anyBuf (F := F) c 7 = _ := any_whole c cc0_scratch7
  have f0 : anyPc (F := F) c 0 = _ := any_whole c cc0_scratch8
  have f1 : anyPc (F := F) c 1 = _ := any_whole c cc0_scratch9
  have f2 : anyPc (F := F) c 2 = _ := any_whole c cc0_scratch10
  have f3 : anyPc (F := F) c 3 = _ := any_whole c cc0_scratch11
  have f4 : anyPc (F := F) c 4 = _ := any_whole c cc0_scratch12
  have f5 : anyPc (F := F) c 5 = _ := any_whole c cc0_scratch13
  have f6 : anyPc (F := F) c 6 = _ := any_whole c cc0_scratch14
  have f7 : anyPc (F := F) c 7 = _ := any_whole c cc0_scratch15
  rw [hb, hp, e0, e1, e2, e3, e4, e5, e6, e7, f0, f1, f2, f3, f4, f5, f6, f7]
  rw [show cfg0.spec = spec0 from rfl, scopedRest0_eq]
  constructor
  · iintro ⟨H0, H1, H2, H3, H4, H5, H6, H7, H8, H9, H10, H11, H12, H13, H14, H15⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6] <;> iassumption
    isplitl [H8]; · iexact H8
    isplitl [H9]; · iexact H9
    isplitl [H10]; · iexact H10
    isplitl [H11]; · iexact H11
    isplitl [H12]; · iexact H12
    isplitl [H13]; · iexact H13
    isplitl [H14] <;> iassumption
  · iintro ⟨⟨H0, H1, H2, H3, H4, H5, H6, H7⟩, H8, H9, H10, H11, H12, H13, H14, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14] <;> iassumption

/-! ## Before and after the body -/

section Body

variable (I : Ins F) (c : Dev nD)

/-- What a device starts the kernel from, beside its inputs and its own buffers. -/
def Enter (f : Buf (Elt F) ((c : Thread nD τ).loc main_v1)) : sProp (𝕄 F) :=
  iprop(G' I c ∗ levAts L lv ∗ Pipeline.launchCred O₀ c ∗ ((c : Thread nD τ).loc main_v1 ↦{fullShare} f))

/-- What a device starts the body from. -/
def Before (f : Buf (Elt F) ((c : Thread nD τ).loc main_v1)) : sProp (𝕄 F) :=
  iprop(Enter I c f ∗ Pipeline.scopedRest cfg0.spec c)

variable {Q : PUnit → sProp (𝕄 F)} (xM : Memref sig .tc .vmem S4096x512 .i8) (wM : Memref sig .tc .vmem S512x8192 .i8) (sxM swM : Memref sig .tc .smem S1 .f32)

theorem body_spec (f : Buf (Elt F) ((c : Thread nD τ).loc main_v1)) :
    iprop(Before I c f ∗ Args I c xM wM ∗ Scales I c sxM swM ∗ Ow c (O₀ c))
      ⊢ iprop(((Final I c ∗ Args I c xM wM ∗ Scales I c sxM swM ∗ Ow c 0) -∗ Q ⟨⟩) -∗ WP c (clean xM wM sxM swM) Q) := by
  unfold Before Enter G'
  iintro ⟨⟨⟨⟨%K, #HI, #HM, Hst, Hp⟩, #HL, Hcr, Hout⟩, Hrest⟩, HA, HS, HO⟩ Hk
  ihave Hrest := (rest_eq (F := F) c).1 $$ Hrest
  icases Hrest with ⟨Hsl, Hpc⟩
  ihave Hsl := (slots_all (F := F) c) $$ Hsl
  icases Hsl with ⟨H0, H1⟩
  ihave Hout := (out_split c f) $$ Hout
  ihave Hd := (deal (F := F) c) $$ [Hst Hp Hcr Hout Hpc]
  · isplitl [Hst]; · iexact Hst
    isplitl [Hp]; · iexact Hp
    isplitl [Hcr]; · iexact Hcr
    rw [bigSep_sep']
    isplitl [Hout]
    · iexact Hout
    · iexact Hpc
  icases Hd with ⟨Hmeet, HB⟩
  iapply (clean_spec I K c xM wM sxM swM (Q := Q)) $$ [Hmeet HB H0 H1 HA HS HO]
  · isplitr
    · unfold Ctx
      isplitr
      · unfold Invs; iexact HI
      iexact HL
    isplitr; · iexact HM
    isplitl [Hmeet]; · iexact Hmeet
    isplitl [HB]; · iexact HB
    isplitl [H0]; · iexact H0
    isplitl [H1]; · iexact H1
    isplitl [HA]; · iexact HA
    isplitl [HS] <;> iassumption
  iexact Hk

/-- After the body: the result, and everything of the kernel's own given back. -/
theorem final_exit :
    (Final I c : sProp (𝕄 F)) ⊢ iprop((((c : Thread nD τ).loc main_v1 ↦{fullShare} (res I)) ∗ unscopedSems0 c)
      ∗ Pipeline.ownSems0 osem c ∗ Pipeline.scopedRest cfg0.spec c) := by
  unfold Final
  rw [bigSep_four, ownSems0_eq, unscopedSems0_eq]
  iintro ⟨⟨H0, H1, Hpc, Hd⟩, Hz, Hb⟩
  isplitl [Hd Hb]
  · isplitl [Hd]
    · iapply (out_join c I); iexact Hd
    · iexact Hb
  isplitl [Hz]
  · iexact Hz
  iapply (rest_eq (F := F) c).2
  isplitr [Hpc]
  · iapply (slots_back (F := F) c)
    isplitl [H0] <;> iassumption
  · iexact Hpc

end Body

/-! ## The run -/

section Launch

variable (m : (ℓ : Loc nD τ sig) → Buf (Elt F) ℓ) (ρ : Dev nD → PrngReg)

abbrev s₀ : MemSt nD τ sig (Elt F) := ⟨m, fun _ => 0, ρ⟩

/-- The inputs, as the kernel finds them in its staging buffers. -/
def insOf : Ins F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-- What the launch is told of the kernel: its inputs stay, and it starts and ends as above. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (insOf m).x c
    | ⟨1, _⟩ => (insOf m).w c
    | ⟨2, _⟩ => (insOf m).sx c
    | ⟨3, _⟩ => (insOf m).sw c
  Φ t := match t with
    | ⟨0, _⟩ => Before (insOf m) c (m ((c : Thread nD τ).loc main_v1))
    | ⟨_ + 1, _⟩ => Final (insOf m) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem ownSemFacts : Pipeline.OwnSemFacts cfg0.spec osem := by decide

/-- The one point of the kernel's grid. -/
abbrev t₀ : Fin cfg0.N := t0_0

theorem before_x (c : Dev nD) (d) : (dats m ρ 0 c).before (0 : Fin 4) t₀ d = (insOf m).x c := by
  unfold Dat.before; rw [if_pos (fetch0_0 t₀)]; rfl
theorem before_w (c : Dev nD) (d) : (dats m ρ 0 c).before (1 : Fin 4) t₀ d = (insOf m).w c := by
  unfold Dat.before; rw [if_pos (fetch0_1 t₀)]; rfl
theorem before_sx (c : Dev nD) (d) : (dats m ρ 0 c).before (2 : Fin 4) t₀ d = (insOf m).sx c := by
  unfold Dat.before; rw [if_pos (fetch0_2 t₀)]; rfl
theorem before_sw (c : Dev nD) (d) : (dats m ρ 0 c).before (3 : Fin 4) t₀ d = (insOf m).sw c := by
  unfold Dat.before; rw [if_pos (fetch0_3 t₀)]; rfl

/-- The launch's own accounts of the debt, and the body's. -/
theorem owes_in (c : Dev nD) : ((dats m ρ 0 c).owesAt 0 t₀.castSucc : sProp (𝕄 F)) ⊢ Ow c (O₀ c) := by
  unfold Dat.owesAt Pipeline.owesWithin Ow
  iintro ⟨%W, -, H⟩
  iexists W
  iexact H
theorem owes_out (c : Dev nD) : (Ow c 0 : sProp (𝕄 F)) ⊢ (dats m ρ 0 c).owesAt 0 t₀.succ := by
  unfold Dat.owesAt Pipeline.owesWithin Ow
  rw [show (dats m ρ 0 c).owed t₀.succ = 0 from rfl]
  iintro ⟨%W, H⟩
  iexists W
  isplitr; · ipureintro; exact fun _ _ => Or.inl trivial
  iexact H

/-- A staging buffer of a device. -/
abbrev stg (c : Dev nD) (b : Ref sig .tc) (X : b.ty.Contents (Elt F)) : sProp (𝕄 F) := owns (c : Thread nD τ) (Memref.whole b) fullShare X

def bodyPre (c : Dev nD) : sProp (𝕄 F) :=
  iprop(Before (insOf m) c (m ((c : Thread nD τ).loc main_v1)) ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp (𝕄 F) :=
  iprop(Final (insOf m) c ∗ (dats m ρ 0 c).owesAt 0 t₀.succ
    ∗ stg c cc0_stg0_0 ((insOf m).x c) ∗ stg c cc0_stg1_0 ((insOf m).w c) ∗ stg c cc0_stg2_0 ((insOf m).sx c) ∗ stg c cc0_stg3_0 ((insOf m).sw c))

theorem body_run (c : Dev nD) :
    bodyPre m ρ c ⊢ WP c (clean (Memref.whole cc0_stg0_0) (Memref.whole cc0_stg1_0) (Memref.whole cc0_stg2_0) (Memref.whole cc0_stg3_0))
      (fun _ => bodyPost m ρ c) := by
  unfold bodyPre bodyPost
  simp only [before_x, before_w, before_sx, before_sw]
  iintro ⟨HB, Ho, ⟨%d0, Hx⟩, ⟨%d1, Hw⟩, ⟨%d2, Hsx⟩, ⟨%d3, Hsw⟩⟩
  ihave Ho := (owes_in m ρ c) $$ Ho
  iapply (body_spec (insOf m) c (Memref.whole cc0_stg0_0) (Memref.whole cc0_stg1_0) (Memref.whole cc0_stg2_0) (Memref.whole cc0_stg3_0)
    (m ((c : Thread nD τ).loc main_v1))) $$ [HB Ho Hx Hw Hsx Hsw]
  · isplitl [HB]; · iexact HB
    isplitl [Hx Hw]
    · unfold Args; isplitl [Hx] <;> iassumption
    isplitl [Hsx Hsw]
    · unfold Scales; isplitl [Hsx] <;> iassumption
    iexact Ho
  unfold Args Scales
  iintro ⟨HF, ⟨Hx, Hw⟩, ⟨Hsx, Hsw⟩, Ho⟩
  isplitl [HF]; · iexact HF
  isplitl [Ho]; · iapply (owes_out m ρ c); iexact Ho
  isplitl [Hx]; · iexact Hx
  isplitl [Hw]; · iexact Hw
  isplitl [Hsx] <;> iassumption

/-- The program the launch runs at the point is the body. -/
theorem prog_eq :
    (defs₀ (F := F) .tc cfg0.body (cfg0.bodyArgs t₀ (cfg0.slots t₀)) : Pr F)
      = clean (Memref.whole cc0_stg0_0) (Memref.whole cc0_stg1_0) (Memref.whole cc0_stg2_0) (Memref.whole cc0_stg3_0) := by
  rw [← body_eq_clean (Memref.whole cc0_stg0_0) (Memref.whole cc0_stg1_0) (Memref.whole cc0_stg2_0) (Memref.whole cc0_stg3_0)
    (Memref.isWhole_whole _) (Memref.isWhole_whole _) (Memref.isWhole_whole _) (Memref.isWhole_whole _)]
  rfl

theorem of_eqs {A B C D : sProp (𝕄 F)} (h1 : A = B) (h2 : C = D) (h : B ⊢ C) : A ⊢ D := by subst h1; subst h2; exact h

/-- The launch's obligation of the body, met. -/
theorem body_obligation (c : Dev nD) : BodyObligation (dats (F := F) m ρ 0 c) (defs₀ (F := F)) 𝒱₀ 0 Set.univ := fun t => by
  rw [fin_N0 t]
  rw [bigSep_W0, bigSep_W0]
  rw [show (defs₀ (F := F) .tc cfg0.body (cfg0.bodyArgs t0_0 (cfg0.slots t0_0)) : Pr F) = _ from prog_eq]
  have e := body_run m ρ c
  refine of_eqs ?_ ?_ e
  · unfold bodyPre
    refine congrArg₂ BI.sep ?_ (congrArg₂ BI.sep ?_ (congrArg₂ BI.sep ?_ (congrArg₂ BI.sep ?_ (congrArg₂ BI.sep ?_ ?_))))
    · rfl
    · rfl
    · rfl
    · rfl
    · rfl
    · rfl
  · congr 1

/-! ### The side conditions of the launch -/

theorem mayWait_stage (c : Dev nD) (q : DmaSem sig) (hq : kindOf (SemLoc.dma q) = none) (O : CellTallies nD τ sig ℕ) (hO : O = O₀ c ∨ O = 0) :
    (levAts L lv : sProp (𝕄 F)) ⊢ MayWait (c : Thread nD τ) (.dma q) 0 O := by
  rcases hO with rfl | rfl
  · have ha : Above 0 (O₀ c) :=
      (((first_above c).mono (Nat.zero_le 1)).add (Above.tally _ _ _ _ (by rw [lv_cell]; decide) (by decide))).add
        (Above.tally _ _ _ _ (by rw [lv_cell]; decide) (by decide))
    exact MayOwe.of_cut (L := L) (lev := lv) 0
      (fun p hp => by
        rw [Finset.mem_singleton.mp hp]; show 0 ∈ L _; unfold L; rw [if_pos (show Proc.tc = Proc.tc from rfl)]; decide)
      (fun g u hg => (ha g u hg).2)
      (fun p hp => by rw [Finset.mem_singleton.mp hp]; show lv _ 0 ≤ 0; unfold lv; dsimp only; rw [hq])
      (fun g u hg => (ha g u hg).1)
  · rw [MayWait_zero]; iintro -; iempintro

theorem waits (c : Dev nD) : (levAts L lv : sProp (𝕄 F)) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

theorem enter_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> (iprop(Enter (insOf m) c (m ((c : Thread nD τ).loc main_v1)) ∗ emp) : sProp (𝕄 F)) := by
  rw [Pipeline.unscopedRestP_eq_of_list cfg0.spec c Pipeline.Prefetch.none (fun b => m ((c : Thread nD τ).loc b)) [main_v1] (by decide) (by decide), bigSepL_singleton]
  unfold Enter
  iintro ⟨Hout, Hlev, Hcr, -, HG⟩
  imodintro
  isplitl
  · isplitl [HG]; · iexact HG
    isplitl [Hlev]; · iexact Hlev
    isplitl [Hcr]; · iexact Hcr
    iexact Hout
  · iempintro

theorem before_intro (c : Dev nD) :
    iprop(Enter (insOf m) c (m ((c : Thread nD τ).loc main_v1))
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Before (insOf m) c (m ((c : Thread nD τ).loc main_v1)) from rfl]
  unfold Before
  iintro ⟨H, -, Hr⟩
  isplitl [H] <;> iassumption

/-- What a device is left with that the launch reads at the end. -/
def Leave (c : Dev nD) : sProp (𝕄 F) := iprop(((c : Thread nD τ).loc main_v1 ↦{fullShare} (res (insOf m))) ∗ unscopedSems0 c)

theorem leave_intro (c : Dev nD) :
    (dats m ρ 0 c).Φ (Fin.last cfg0.N) ⊢ iprop(Leave m c ∗ Pipeline.ownSems0 osem c ∗ Pipeline.scopedRest cfg0.spec c) := by
  rw [show (dats m ρ 0 c).Φ (Fin.last cfg0.N) = Final (insOf m) c from rfl]
  unfold Leave
  exact final_exit (insOf m) c

/-- What every device's memory and counters read at the end. -/
def Ends (c : Dev nD) (s : MemSt nD τ sig (Elt F)) : Prop :=
  s.mem ((c : Thread nD τ).loc main_v1) = res (insOf m) ∧ ∀ sm : SemLoc sig, sm.isScoped .tc = false → s.sem ((c.tc : Thread nD τ), sm) = 0

theorem leave_read (c : Dev nD) (s' : Phys nD τ sig (Elt F)) :
    iprop(Leave m c ∗ emp ∗ SI s') ⊢ |={Set.univ}=> (iprop(⌜Ends m c s'.mem⌝ ∗ SI s') : sProp (𝕄 F)) := by
  unfold Leave Ends
  iintro ⟨⟨Hv, Hu⟩, -, HSI⟩
  icombine HSI Hv gives %h0
  have h := Pipeline.unscopedSems0_read (X := (unscopedSems0 c : sProp (𝕄 F))) (c := c) fupd_intro s'
  imod h $$ [Hu HSI] with ⟨%h1, HSI⟩
  · isplitl [Hu] <;> iassumption
  imodintro
  isplitr; · ipureintro; exact ⟨Buf.eq_of_forall_mem_univ h0, h1⟩
  iexact HSI

/-! ### The run -/

set_option maxRecDepth 100000 in
/-- From any memory with zero counters, every fair execution of the kernel on the eight devices ends, with every
    device's result `res` of the inputs, the inputs as they were, and every counter at zero. -/
theorem run_main : θ_run defs (onTc (τ := τ) (main (F := F))) (s₀ m ρ) (fun r =>
    (∀ c : Dev nD, r.2.mem ((c : Thread nD τ).loc main_v1) = res (insOf m)
      ∧ ∀ w : Fin cfg0.W, r.2.mem ((cfg0.win w).arr.view.loc (c : Thread nD τ)) = m ((cfg0.win w).arr.view.loc (c : Thread nD τ)))
    ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund_ring (insOf m)) $$ HX with HG
      imodintro
      isplitl [HP] <;> iassumption)
    (hglob := glob (insOf m))
    (hA := fun _ _ => rfl) (hpf := fun _ k => k.elim0)
    (X := fun c => Enter (insOf m) c (m ((c : Thread nD τ).loc main_v1))) (Y := fun c => Leave m c) (Z := fun _ => iprop(emp))
    (hX := enter_intro m ρ) (hin := before_intro m ρ) (hout := leave_intro m ρ)
    (QY := Ends m) (hY := leave_read m)
    (hQ := fun _ h hs => ⟨fun c => ⟨(h c).2.2.1, fun w => ((h c).1 w).trans ((dats (F := F) m ρ 0 c).arrAt_in w (by fin_cases w <;> rfl) _)⟩,
      sem_eq_zero hs fun c => (h c).2.2.2⟩)

end Launch

end Cert.KernelIdeal.Ring

end
-- ==== Proof.Frames.lean ====
/-
The runs of the kernel and of the reference leave the arguments alone and every counter at zero.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent
public import Idealize.ShloMosaic.Lib.Pipeline.Regions

@[expose] public section

noncomputable section

namespace Cert.Proof

open Idealize.ShloMosaic Idealize.ShloMosaic.TcCoe Idealize.SL.Sem

variable {F : FTy → Type} [FloatOps F]

section Kernel

open Cert.KernelIdeal Cert.KernelIdeal.Gen

variable (m : (ℓ : Loc nD τ sig) → Buf (Elt F) ℓ) (ρ : Dev nD → PrngReg)

set_option maxRecDepth 100000 in
/-- The kernel's run, each buffer by its name: the result, the arguments as they were, every counter zero. -/
theorem kernel_run : θ_run (defs (F := F)) (onTc (τ := τ) (main (F := F))) ⟨m, fun _ => 0, ρ⟩ (fun r =>
    (∀ c : Dev nD,
      r.2.mem ((c.tc : Thread nD τ).loc main_v1) = Ring.res (Ring.insOf m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1 c).1, (h.1 c).2 0, (h.1 c).2 1, (h.1 c).2 2, (h.1 c).2 3⟩, h.2⟩)
    (Ring.run_main m ρ)

end Kernel

/-- The program read with words of bits is the program read with real numbers, word for word. -/
theorem same_run (m : (ℓ : Loc Cert.Kernel.nD Cert.Kernel.τ Cert.Kernel.sig) → Buf (Elt Bits) ℓ) (ρ : Dev Cert.Kernel.nD → PrngReg) (Q : _ → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  chain_rfl

/-- The kernel, its floats words of bits: it ends, the arguments as they were, every counter zero. -/
theorem frame_kernel : haveI := Cert.Kernel.Gen.facts; Cert.quiescent_Kernel := fun m ρ _ =>
  (same_run m ρ _).mpr ((θ_run (Cert.KernelIdeal.defs (F := Bits)) _ _).mono (fun _ h => ⟨fun c => (h.1 c).2, h.2⟩) (kernel_run (F := Bits) m ρ))

/-- The kernel, its floats real numbers: the same. -/
theorem frame_ideal : haveI := Cert.KernelIdeal.Gen.facts; Cert.quiescent_KernelIdeal := fun m ρ _ =>
  (θ_run (Cert.KernelIdeal.defs (F := Ideal)) _ _).mono (fun _ h => ⟨fun c => (h.1 c).2, h.2⟩) (kernel_run (F := Ideal) m ρ)

/-- The reference: it ends, the arguments as they were, and it has no counter. -/
theorem frame_reference : haveI := Cert.ReferenceIdeal.Gen.facts; Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.Proof

end
-- ==== Proof.Value.lean ====
/-
What the kernel's result is, its floats real numbers: at each entry the sum over the eight devices of
the integer product of the device's rows and columns, scaled.
-/
module

public import proofs.«01_k».proof.Proof.Mem
public import Idealize.ShloMosaic.Lib.IntMxu
public import Idealize.ShloMosaic.Lib.StackMember
public import Idealize.ShloMosaic.PureOps.Ideal.Laws

@[expose] public section

noncomputable section

namespace Cert.KernelIdeal.Ring

open Cert.KernelIdeal.Gen
open Idealize.ShloMosaic Idealize.ShloMosaic.TcCoe
open Idealize.ShloMosaic.ValueIdx (contrEquiv1 contrEquiv1_symm_val)

/-! ## The rows a lane works on -/

/-- The row block a lane of device `d` holds at step `s`. -/
def rowOf (l : Fin 8) (s : ℕ) (d : Dev nD) : Fin 8 :=
  if l.val % 2 = 0 then ⟨(d.val + 16 - s) % 8, Nat.mod_lt _ (by decide)⟩ else ⟨(d.val + s) % 8, Nat.mod_lt _ (by decide)⟩

theorem rowOf_zero : ∀ (l : Fin 8) (d : Dev nD), (rowOf l 0 d).val = d.val := by decide
theorem rowOf_up : ∀ (l : Fin 8) (s : Fin 7) (d : Dev nD), rowOf l s.val (up l d) = rowOf l (s.val + 1) d := by decide +kernel
theorem rowOf_own : ∀ l q : Fin 8, rowOf l 7 (ownDev l q) = q := by decide +kernel
theorem off0_at : ∀ d : Dev nD, k0_off1 d 0 = 512 * d.val ∧ k0_off1 d 1 = 0 := by decide +kernel
theorem rsOff_at : ∀ (l : Fin 8) (d : Dev nD) (s : Fin 7),
    rsOff l d s 0 = 512 * (rowOf l (s.val + 1) d).val ∧ rsOff l d s 1 = 0 := by decide +kernel

/-- Going up a lane meets every device once. -/
theorem back_bij : ∀ (l : Fin 8) (d : Dev nD), Function.Bijective fun n : Fin 8 => back l n d := fun l d =>
  Finite.injective_iff_bijective.mp fun n n' h => own_back_inj l d n n' (congrArg (own l) h)

/-! ## A device's share of an entry -/

/-- The integer product of row `i 0` and column `i 1` over a device's part of the contraction. -/
def dotOf (I : Ins Ideal) (d : Dev nD) (i : S4096x8192.Idx) : ℤ :=
  ∑ k : Fin 512, (I.x d (ix2 (n0 := 4096) (n1 := 512) (i 0) k)).toInt * (I.w d (ix2 (n0 := 512) (n1 := 8192) k (i 1))).toInt

/-- A device's share of entry `i`. -/
def share (I : Ins Ideal) (d : Dev nD) (i : S4096x8192.Idx) : EReal := ((dotOf I d i : ℝ) : EReal) * I.scale d

/-- The dot product of a block of rows and a block of columns, position by position. -/
theorem dot_at (x : IVec S512x512 8) (w : IVec S512x1024 8) (j : S512x1024.Idx) :
    dotI8 dot_S512x512_S512x1024_S512x1024_1_0_0_1_n_n x w j
      = ∑ k : Fin 512, (x (ix2 (n0 := 512) (n1 := 512) (j 0) k)).toInt * (w (ix2 (n0 := 512) (n1 := 1024) k (j 1))).toInt := by
  unfold dotI8
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  refine congrArg₂ (fun a b => (x a).toInt * (w b).toInt) ?_ ?_
  · funext a; apply Fin.ext
    match a with
    | ⟨0, _⟩ => rfl
    | ⟨1, _⟩ => exact hk
  · funext a; apply Fin.ext
    match a with
    | ⟨0, _⟩ => exact hk
    | ⟨1, _⟩ => rfl

/-- An entry of a partial product. -/
theorem part_at (a : Ideal .f32) (x : Vec Ideal S512x512 .i8) (w : Vec Ideal S512x1024 .i8) (j : S512x1024.Idx) :
    part (F := Ideal) a x w j
      = ((((∑ k : Fin 512, (x (ix2 (n0 := 512) (n1 := 512) (j 0) k)).toInt * (w (ix2 (n0 := 512) (n1 := 1024) k (j 1))).toInt : ℤ) : ℝ) : EReal) * a : EReal) := by
  rw [← dot_at x w j]
  have h := matmulI8_toInt IntMxuNumerics.v7x dot_S512x512_S512x1024_S512x1024_1_0_0_1_n_n x w (constantI S512x1024 32 0#32) j rfl
    ((absDotI8_le_numel _ _ _ _).trans (by decide))
  rw [← h]
  unfold part
  rw [shapeCast_self, shapeCast_self]
  rfl

/-- A block's partial product is the device's share of the entries it covers. -/
theorem part_share (I : Ins Ideal) (d : Dev nD) (l : Fin 8) (off : Fin 2 → ℕ) (inb : ∀ a, off a + S512x512.size a ≤ S4096x512.size a)
    (j : S512x1024.Idx) (i : S4096x8192.Idx) (h1 : off 1 = 0) (hi0 : (i 0).val = off 0 + (j 0).val) (hi1 : (i 1).val = base l + (j 1).val) :
    part (F := Ideal) (I.scale d) (fun j => I.x d ((Rect.unit (s := S4096x512) off S512x512.size inb).emb j)) (fun j => I.w d ((wR l).emb j)) j
      = share I d i := by
  rw [part_at]
  unfold share dotOf
  refine congrArg (fun z : ℤ => (((z : ℝ) : EReal) * I.scale d : EReal)) (Finset.sum_congr rfl fun k _ => ?_)
  refine congrArg₂ (fun a b => (I.x d a).toInt * (I.w d b).toInt) ?_ ?_
  · funext a; apply Fin.ext
    match a with
    | ⟨0, _⟩ =>
      rw [Rect.emb_apply]
      show off 0 + 1 * (j 0).val = (i 0).val
      omega
    | ⟨1, _⟩ =>
      rw [Rect.emb_apply]
      show off 1 + 1 * k.val = k.val
      omega
  · funext a; apply Fin.ext
    match a with
    | ⟨0, _⟩ =>
      rw [Rect.emb_apply]
      show 0 + 1 * k.val = k.val
      omega
    | ⟨1, _⟩ =>
      rw [Rect.emb_apply]
      show base l + 1 * (j 1).val = (i 1).val
      omega

/-! ## What a lane has added up -/

/-- What a lane holds at step `s` is the shares of the devices it has passed. -/
theorem val_sum (I : Ins Ideal) (l : Fin 8) (j : S512x1024.Idx) (i : S4096x8192.Idx) (hi1 : (i 1).val = base l + (j 1).val) :
    ∀ (s : ℕ) (hs : s < 8) (d : Dev nD), (i 0).val = 512 * (rowOf l s d).val + (j 0).val →
      val I l s d j = ∑ n ∈ (Finset.univ.filter fun n : Fin 8 => n.val ≤ s), share I (back l n d) i
  | 0, _, d, h => by
    rw [show (Finset.univ.filter fun n : Fin 8 => n.val ≤ 0) = {0} from by decide, Finset.sum_singleton, back_zero]
    rw [rowOf_zero] at h
    exact part_share I d l (k0_off1 d) (k0_off1_inb d) j i (off0_at d).2 (by rw [(off0_at d).1]; exact h) hi1
  | s + 1, hs, d, h => by
    have ih := val_sum I l j i hi1 s (by omega) (up l d) (by rw [rowOf_up l ⟨s, by omega⟩ d]; exact h)
    have hp : pt I l s d j = share I d i := by
      have hm : s % 7 = s := Nat.mod_eq_of_lt (by omega)
      refine part_share I d l _ (rsOff_inb l d _) j i (rsOff_at l d _).2 ?_ hi1
      rw [(rsOff_at l d _).1]
      show _ = 512 * (rowOf l (s % 7 + 1) d).val + _
      rw [hm]; exact h
    rw [val, if_pos (by omega)]
    show val I l s (up l d) j + pt I l s d j = _
    rw [ih, hp]
    have e : (Finset.univ.filter fun n : Fin 8 => n.val ≤ s + 1)
        = insert 0 ((Finset.univ.filter fun n : Fin 7 => n.val ≤ s).map ⟨Fin.succ, Fin.succ_injective 7⟩) := by
      ext n
      rw [Finset.mem_insert, Finset.mem_map, Finset.mem_filter]
      constructor
      · rintro ⟨_, hn⟩
        rcases Fin.eq_zero_or_eq_succ n with rfl | ⟨n, rfl⟩
        · exact .inl rfl
        · exact .inr ⟨n, Finset.mem_filter.mpr ⟨Finset.mem_univ _, by have : n.val + 1 ≤ s + 1 := hn; omega⟩, rfl⟩
      · rintro (rfl | ⟨n, hn, rfl⟩)
        · exact ⟨Finset.mem_univ _, Nat.zero_le _⟩
        · exact ⟨Finset.mem_univ _, by have := (Finset.mem_filter.mp hn).2; show n.val + 1 ≤ s + 1; omega⟩
    have e' : (Finset.univ.filter fun n : Fin 8 => n.val ≤ s)
        = (Finset.univ.filter fun n : Fin 7 => n.val ≤ s).map ⟨Fin.castSucc, Fin.castSucc_injective 7⟩ := by
      ext n
      rw [Finset.mem_map, Finset.mem_filter]
      constructor
      · rintro ⟨_, hn⟩
        exact ⟨⟨n.val, by omega⟩, Finset.mem_filter.mpr ⟨Finset.mem_univ _, hn⟩, rfl⟩
      · rintro ⟨n, hn, rfl⟩
        exact ⟨Finset.mem_univ _, (Finset.mem_filter.mp hn).2⟩
    rw [e, e', Finset.sum_insert, Finset.sum_map, Finset.sum_map, back_zero, add_comm]
    · refine congrArg (share I d i + ·) (Finset.sum_congr rfl fun n _ => ?_)
      show share I (back l n.castSucc (up l d)) i = share I (back l n.succ d) i
      rw [back_succ]
    · rw [Finset.mem_map]
      rintro ⟨n, _, hn⟩
      exact absurd hn (Fin.succ_ne_zero n)

/-- The result: at each entry the shares of all the devices. -/
theorem res_eq (I : Ins Ideal) (i : S4096x8192.Idx) : res I i = (∑ d : Dev nD, share I d i : EReal) := by
  have b0 : (i 0).val < 512 * 8 := (i 0).isLt
  have b1 : (i 1).val < 1024 * 8 := (i 1).isLt
  have h0 : (i 0).val = 512 * ((i 0).val / 512) + (i 0).val % 512 := by omega
  have h1 : (i 1).val = base (laneOf ⟨(i 1).val / 1024, by omega⟩) + (i 1).val % 1024 := by
    rw [base_laneOf]; dsimp only; omega
  have e := res_at I (laneOf ⟨(i 1).val / 1024, by omega⟩) ⟨(i 0).val / 512, by omega⟩
    (ix2 (n0 := 512) (n1 := 1024) ⟨(i 0).val % 512, Nat.mod_lt _ (by decide)⟩ ⟨(i 1).val % 1024, Nat.mod_lt _ (by decide)⟩) i h0 h1
  rw [e, val_sum I _ _ i h1 7 (by decide) _ (by rw [rowOf_own]; exact h0)]
  rw [Finset.filter_true_of_mem fun n _ => by have := n.isLt; omega]
  exact (back_bij _ _).sum_comp fun d => share I d i

end Cert.KernelIdeal.Ring

end
-- ==== Proof.Equal.lean ====
/-
The kernel's result is the reference's, its floats real numbers and the scales finite.
-/
module

public import proofs.«01_k».proof.Proof.Frames
public import proofs.«01_k».proof.Proof.Value
public import Idealize.ShloMosaic.Lib.ReduceAll
public import Idealize.ShloMosaic.Lib.Pipeline.Value

@[expose] public section

noncomputable section

namespace Cert.Proof

open Idealize.ShloMosaic Idealize.ShloMosaic.TcCoe Idealize.SL.Sem
open Cert.KernelIdeal.Ring (insOf share dotOf res res_eq Ins)

/-! ## The inputs, as the kernel finds them -/

section Inputs

open Cert.KernelIdeal Cert.KernelIdeal.Gen

variable {F : FTy → Type} [FloatOps F]
variable (m : (ℓ : Loc nD τ sig) → Buf (Elt F) ℓ) (c : Dev nD)

theorem insOf_x : (insOf m).x c = m ((c : Thread nD τ).loc main_arg0) := by
  have hz : (fun a => (win0_0.index (0 : Fin 1)) a * main_arg0.ty.shape.size a) = fun _ => 0 := funext fun a => by fin_cases a <;> decide
  have e := Memref.read_access_unit_zero (Elt F) main_arg0 hz (fun a => by fin_cases a <;> decide) (m ((c : Thread nD τ).loc main_arg0))
  exact e
theorem insOf_w : (insOf m).w c = m ((c : Thread nD τ).loc main_arg1) := by
  have hz : (fun a => (win0_1.index (0 : Fin 1)) a * main_arg1.ty.shape.size a) = fun _ => 0 := funext fun a => by fin_cases a <;> decide
  have e := Memref.read_access_unit_zero (Elt F) main_arg1 hz (fun a => by fin_cases a <;> decide) (m ((c : Thread nD τ).loc main_arg1))
  exact e
theorem insOf_sx : (insOf m).sx c = m ((c : Thread nD τ).loc main_arg2) := by
  have hz : (fun a => (win0_2.index (0 : Fin 1)) a * main_arg2.ty.shape.size a) = fun _ => 0 := funext fun a => by fin_cases a <;> decide
  have e := Memref.read_access_unit_zero (Elt F) main_arg2 hz (fun a => by fin_cases a <;> decide) (m ((c : Thread nD τ).loc main_arg2))
  exact e
theorem insOf_sw : (insOf m).sw c = m ((c : Thread nD τ).loc main_arg3) := by
  have hz : (fun a => (win0_3.index (0 : Fin 1)) a * main_arg3.ty.shape.size a) = fun _ => 0 := funext fun a => by fin_cases a <;> decide
  have e := Memref.read_access_unit_zero (Elt F) main_arg3 hz (fun a => by fin_cases a <;> decide) (m ((c : Thread nD τ).loc main_arg3))
  exact e

end Inputs

/-! ## Real numbers among the extended ones -/

theorem coe_sum {ι : Type} (S : Finset ι) (f : ι → ℝ) : (((∑ k ∈ S, f k : ℝ)) : EReal) = ∑ k ∈ S, (f k : EReal) := by
  classical
  induction S using Finset.induction_on with
  | empty => rw [Finset.sum_empty, Finset.sum_empty, EReal.coe_zero]
  | insert a S ha ih => rw [Finset.sum_insert ha, Finset.sum_insert ha, EReal.coe_add, ih]

/-- A number whose magnitude is below infinity is real. -/
theorem real_of_lt {x : EReal} (h : max x (-x) < ⊤) : ∃ r : ℝ, x = (r : EReal) := by
  have h1 := (max_lt_iff.mp h).1
  have h2 := (max_lt_iff.mp h).2
  induction x using EReal.rec with
  | bot => exact absurd h2 (by rw [EReal.neg_bot]; exact lt_irrefl _)
  | top => exact absurd h1 (lt_irrefl _)
  | coe r => exact ⟨r, rfl⟩

/-- One scale over parts of a sum is the scale over the sum. -/
theorem scale_sum (f : Fin 8 → ℝ) (a : ℝ) : (∑ d : Fin 8, ((f d : ℝ) : EReal) * (a : EReal)) = ((∑ d : Fin 8, f d : ℝ) : EReal) * (a : EReal) := by
  rw [← EReal.coe_mul, Finset.sum_mul, coe_sum]
  exact Finset.sum_congr rfl fun d _ => (EReal.coe_mul _ _).symm

/-! ## The precondition -/

theorem facts_scales : Cert.Pre_finite_scales_KernelIdeal.Facts := ⟨by decide, by decide, by decide⟩
theorem facts_scales_ref : Cert.Pre_finite_scales_ReferenceIdeal.Facts := ⟨by decide, by decide, by decide⟩

theorem inf_top : Ideal.ofBits .f32 0x7F800000#32 = ⊤ := by simp [Ideal.ofBits, Ideal.ieee]

section Pre

open Cert.Pre_finite_scales_KernelIdeal

instance : Subsingleton S_.Idx := ⟨fun _ _ => funext fun a => a.elim0⟩

/-- Where the precondition holds, both scales are real. -/
theorem scales_real (x : IVec S4096x512 8) (w : IVec S512x8192 8) (sx sw : FVec Ideal S1 .f32)
    (h : haveI := facts_scales; fn (F := Ideal) x w sx sw = fun _ => 1#1) (i : S1.Idx) :
    (∃ r : ℝ, sx i = (r : EReal)) ∧ ∃ r : ℝ, sw i = (r : EReal) := by
  haveI := facts_scales
  have hj := congrFun h (fun a => a.elim0 : S_.Idx)
  simp only [fn] at hj
  obtain ⟨h1, h2⟩ := IntOp.andi_eq_one.mp hj
  have e1 := Host.reduce_andi_all _ _ _ _ _ h1 i
  have e2 := Host.reduce_andi_all _ _ _ _ _ h2 i
  have lt_of (v : FVec Ideal S1 .f32) (e : Ideal.cmp .olt (max (v i) (-(v i))) (Ideal.ofBits .f32 0x7F800000#32) = 1#1) :
      ∃ r : ℝ, v i = (r : EReal) := by
    rw [inf_top] at e
    refine real_of_lt ?_
    by_contra hn
    have e' : BitVec.ofBool (decide (max (v i) (-(v i)) < ⊤)) = 1#1 := e
    rw [decide_eq_false hn] at e'
    exact absurd e' (by decide)
  exact ⟨lt_of sx e1, lt_of sw e2⟩

end Pre

/-! ## The reference's entries -/

section Reference

open Cert.ReferenceIdeal Cert.ReferenceIdeal.Gen

/-- The reference's result. -/
def refOut (X : IVec S4096x4096 8) (W : IVec S4096x8192 8) (sx sw : FVec Ideal S1 .f32) : FVec Ideal S4096x8192 .f32 :=
  mulf (Host.dotGeneral dot_S4096x4096_S4096x8192_S4096x8192_1_0_0_1_n_n none (sitofp .f32 (extsi 32 X natLt_8_32)) (sitofp .f32 (extsi 32 W natLt_8_32)))
    (broadcastInDim S4096x8192 ![0, 1] bcast_S1x1_S4096x8192_0_1 (broadcastInDim S1x1 ![1] bcast_S1_S1x1_1 (mulf sx sw)))

theorem idx_one (i j : S1.Idx) : i = j := funext fun a => Fin.ext (by
  match a with
  | ⟨0, _⟩ => have h1 : (i 0).val < 1 := (i 0).isLt; have h2 : (j 0).val < 1 := (j 0).isLt; show (i 0).val = (j 0).val; omega)

theorem refOut_at (X : IVec S4096x4096 8) (W : IVec S4096x8192 8) (sx sw : FVec Ideal S1 .f32) (i : S4096x8192.Idx) (o : S1.Idx) :
    refOut X W sx sw i
      = (((∑ k : Fin 4096, ((X (ix2 (n0 := 4096) (n1 := 4096) (i 0) k)).toInt : ℝ) * ((W (ix2 (n0 := 4096) (n1 := 8192) k (i 1))).toInt : ℝ) : ℝ) : EReal)
          * (sx o * sw o) : EReal) := by
  have e := StackMember.dotGeneral_plain_apply (m := 4096) (k := 4096) (n := 8192) none
    (sitofp (F := Ideal) .f32 (extsi 32 X natLt_8_32)) (sitofp (F := Ideal) .f32 (extsi 32 W natLt_8_32)) (i 0) (i 1)
  have hb : (broadcastInDim S4096x8192 ![0, 1] bcast_S1x1_S4096x8192_0_1 (broadcastInDim S1x1 ![1] bcast_S1_S1x1_1 (mulf (F := Ideal) sx sw))) i
      = (sx o * sw o : EReal) := by
    exact congrArg (fun j => (sx j * sw j : EReal)) (idx_one _ o)
  have hd : Host.dotGeneral (F := Ideal) dot_S4096x4096_S4096x8192_S4096x8192_1_0_0_1_n_n none (sitofp .f32 (extsi 32 X natLt_8_32)) (sitofp .f32 (extsi 32 W natLt_8_32)) i
      = (((∑ k : Fin 4096, ((X (ix2 (n0 := 4096) (n1 := 4096) (i 0) k)).toInt : ℝ) * ((W (ix2 (n0 := 4096) (n1 := 8192) k (i 1))).toInt : ℝ) : ℝ) : EReal)) := by
    rw [eq_ix2 i]
    refine Eq.trans e ?_
    rw [coe_sum]
    refine Finset.sum_congr rfl fun k _ => ?_
    rw [EReal.coe_mul]
    show ((((X _).signExtend 32).toInt : ℝ) : EReal) * ((((W _).signExtend 32).toInt : ℝ) : EReal) = _
    rw [BitVec.toInt_signExtend_of_le (by decide), BitVec.toInt_signExtend_of_le (by decide)]
    rfl
  show (_ * _ : EReal) = _
  rw [← hb, ← hd]

end Reference

/-! ## The two results are one -/

/-- A sum over the whole inner dimension, device after device. -/
theorem sum_blocks (f : Fin 4096 → ℝ) :
    (∑ d : Fin 8, ∑ k : Fin 512, f ⟨d.val * 512 + k.val, by omega⟩ : ℝ) = ∑ k : Fin 4096, f k := by
  rw [← Fintype.sum_prod_type' (f := fun (d : Fin 8) (k : Fin 512) => f ⟨d.val * 512 + k.val, by omega⟩)]
  refine Fintype.sum_equiv (finProdFinEquiv (m := 8) (n := 512)) _ _ fun p => congrArg f (Fin.ext ?_)
  show p.1.val * 512 + p.2.val = p.2.val + 512 * p.1.val
  omega

/-- Device `d`'s integer product sums the reference's terms of its own block of the inner dimension. -/
theorem dot_block (I : Ins Ideal) (d : Fin 8) (X : IVec Cert.ReferenceIdeal.S4096x4096 8) (W : IVec Cert.ReferenceIdeal.S4096x8192 8)
    (hx : I.x d = Layout.block ⟨2, ![4096, 512]⟩ ⟨2, ![4096, 4096]⟩ 1 8 d X)
    (hw : I.w d = Layout.block ⟨2, ![512, 8192]⟩ ⟨2, ![4096, 8192]⟩ 0 8 d W) (i : Cert.KernelIdeal.S4096x8192.Idx) :
    ((dotOf I d i : ℤ) : ℝ) = ∑ k : Fin 512, ((X (ix2 (n0 := 4096) (n1 := 4096) (i 0) ⟨d.val * 512 + k.val, by omega⟩)).toInt : ℝ)
      * ((W (ix2 (n0 := 4096) (n1 := 8192) ⟨d.val * 512 + k.val, by omega⟩ (i 1))).toInt : ℝ) := by
  unfold dotOf
  rw [hx, hw, Int.cast_sum]
  refine Finset.sum_congr rfl fun k _ => ?_
  rw [Int.cast_mul, Layout.block_apply, Layout.block_apply]
  refine congrArg₂ (fun a b : BitVec 8 => (a.toInt : ℝ) * (b.toInt : ℝ)) (congrArg X (funext fun a => Fin.ext ?_)) (congrArg W (funext fun a => Fin.ext ?_))
  all_goals
    match a with
    | ⟨0, _⟩ => rfl
    | ⟨1, _⟩ => rfl

/-- The kernel's result on the blocks of the whole arrays is the reference's on the arrays, the scales being real. -/
theorem res_refOut (I : Ins Ideal) (X : IVec Cert.ReferenceIdeal.S4096x4096 8) (W : IVec Cert.ReferenceIdeal.S4096x8192 8)
    (sx sw : FVec Ideal Cert.ReferenceIdeal.S1 .f32)
    (hx : ∀ d : Fin 8, I.x d = Layout.block ⟨2, ![4096, 512]⟩ ⟨2, ![4096, 4096]⟩ 1 8 d X)
    (hw : ∀ d : Fin 8, I.w d = Layout.block ⟨2, ![512, 8192]⟩ ⟨2, ![4096, 8192]⟩ 0 8 d W)
    (hsx : ∀ d : Fin 8, I.sx d = sx) (hsw : ∀ d : Fin 8, I.sw d = sw)
    (hr : ∀ o, (∃ r : ℝ, sx o = (r : EReal)) ∧ ∃ r : ℝ, sw o = (r : EReal)) : res I = refOut X W sx sw := by
  funext i
  have hn : 0 < Cert.ReferenceIdeal.S1.numel := by decide
  obtain ⟨⟨a, ha⟩, b, hb⟩ := hr (Shape.Idx.first hn)
  have hs (d : Fin 8) : I.scale d = ((a * b : ℝ) : EReal) := by
    show (I.sx d _ * I.sw d _ : EReal) = _
    rw [hsx, hsw, EReal.coe_mul, ← ha, ← hb]
  rw [refOut_at X W sx sw i (Shape.Idx.first hn), ha, hb, ← EReal.coe_mul, res_eq]
  have e (d : Fin 8) : share I d i = (((dotOf I d i : ℤ) : ℝ) : EReal) * ((a * b : ℝ) : EReal) := by
    unfold share
    rw [hs]
  refine (Finset.sum_congr rfl fun d _ => e d).trans ?_
  refine (scale_sum (fun d => ((dotOf I d i : ℤ) : ℝ)) (a * b)).trans ?_
  refine congrArg (fun r : ℝ => (r : EReal) * ((a * b : ℝ) : EReal)) ?_
  rw [← sum_blocks]
  exact Finset.sum_congr rfl fun d _ => dot_block I d X W (hx d) (hw d) i

/-- Over real numbers, and with finite scales, the kernel leaves on every device the reference's result. -/
theorem algebraic :
    haveI := Cert.KernelIdeal.Gen.facts
    haveI := Cert.ReferenceIdeal.Gen.facts
    haveI := facts_scales
    Cert.algebraic_KernelIdeal_ReferenceIdeal_pre_finite_scales_KernelIdeal := by
  intro m g m' g' hp hin
  have hres : res (insOf m) = refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    res_refOut (insOf m) _ _ _ _ (fun d => (insOf_x m d).trans (hin d).1) (fun d => (insOf_w m d).trans (hin d).2.1)
      (fun d => (insOf_sx m d).trans (hin d).2.2.1) (fun d => (insOf_sw m d).trans (hin d).2.2.2) fun o => by
        have h := scales_real _ _ _ _ (hp (0 : Fin 8)) o
        rw [(hin (0 : Fin 8)).2.2.1, (hin (0 : Fin 8)).2.2.2] at h
        exact h
  refine ⟨_, ?_, (θ_run _ _ _).mono (fun r h => h 0) (Cert.ReferenceIdeal.Value.run (F := Ideal) m' g')⟩
  exact (θ_run _ _ _).mono (fun r h c => ⟨(h.1 c).1.trans hres, (h.1 c).2⟩) (kernel_run (F := Ideal) m g)

end Cert.Proof

end
-- ==== Proof.lean ====
/-
The five claims about the ring all-reduce of an int8 matrix product over eight devices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The program as printed and its ideal one run and leave their inputs and counters, the reference does too, the two kernels are the same program, and the ideal one
    computes the reference's result. -/
theorem claim : Cert.Claim :=
  ⟨Cert.Kernel.Gen.facts, Cert.KernelIdeal.Gen.facts, Cert.ReferenceIdeal.Gen.facts, facts_scales, facts_scales_ref,
    frame_kernel, frame_ideal, fun m g _ => frame_ideal m g trivial, frame_reference, fun m g _ => frame_reference m g trivial, trivial, algebraic⟩

end Cert.Proof

end
